-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseIdeal_largest_in_range [hPre_largest_in_range : Cert.Pre_largest_in_range.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_largest_in_range.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2))).1 = (fun _ => 1#1)
    ∧ (Cert.Pre_largest_in_range.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2))).2.1 = (fun _ => 1#1)
    ∧ (Cert.Pre_largest_in_range.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2))).2.2 = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_largest_in_range [hPre_largest_in_range : Cert.Pre_largest_in_range.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_largest_in_range.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2))).1 = (fun _ => 1#1)
    ∧ (Cert.Pre_largest_in_range.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2))).2.1 = (fun _ => 1#1)
    ∧ (Cert.Pre_largest_in_range.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def quiescent_QuantiseIdeal_pre_largest_in_range [hQuantiseIdeal : Cert.QuantiseIdeal.Facts] [hPre_largest_in_range : Cert.Pre_largest_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal_largest_in_range m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2))
      ∧ r.2.sem = fun _ => 0)

def quiescent_QuantiseReferenceIdeal_pre_largest_in_range [hQuantiseReferenceIdeal : Cert.QuantiseReferenceIdeal.Facts] [hPre_largest_in_range : Cert.Pre_largest_in_range.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_largest_in_range m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseReferenceIdeal_pre_largest_in_range [hQuantiseIdeal : Cert.QuantiseIdeal.Facts] [hQuantiseReferenceIdeal : Cert.QuantiseReferenceIdeal.Facts] [hPre_largest_in_range : Cert.Pre_largest_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal_largest_in_range m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)) (v3 : (c : Dev Cert.QuantiseIdeal.nD) → Buf (Elt Ideal) ((c.tc : Thread Cert.QuantiseIdeal.nD Cert.QuantiseIdeal.τ).loc Cert.QuantiseIdeal.main_v0_3)) (v4 : (c : Dev Cert.QuantiseIdeal.nD) → Buf (Elt Ideal) ((c.tc : Thread Cert.QuantiseIdeal.nD Cert.QuantiseIdeal.τ).loc Cert.QuantiseIdeal.main_v0_4)) (v5 : (c : Dev Cert.QuantiseIdeal.nD) → Buf (Elt Ideal) ((c.tc : Thread Cert.QuantiseIdeal.nD Cert.QuantiseIdeal.τ).loc Cert.QuantiseIdeal.main_v0_5)) (v6 : (c : Dev Cert.QuantiseIdeal.nD) → Buf (Elt Ideal) ((c.tc : Thread Cert.QuantiseIdeal.nD Cert.QuantiseIdeal.τ).loc Cert.QuantiseIdeal.main_v0_6)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_v0_3) = v3 c
          ∧ r.2.mem ((c.tc : Thread Cert.QuantiseIdeal.nD Cert.QuantiseIdeal.τ).loc Cert.QuantiseIdeal.main_v0_4) = v4 c
          ∧ r.2.mem ((c.tc : Thread Cert.QuantiseIdeal.nD Cert.QuantiseIdeal.τ).loc Cert.QuantiseIdeal.main_v0_5) = v5 c
          ∧ r.2.mem ((c.tc : Thread Cert.QuantiseIdeal.nD Cert.QuantiseIdeal.τ).loc Cert.QuantiseIdeal.main_v0_6) = v6 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v31_0) = v0 c
          ∧ r.2.mem ((c.tc : Thread Cert.QuantiseReferenceIdeal.nD Cert.QuantiseReferenceIdeal.τ).loc Cert.QuantiseReferenceIdeal.main_v37) = v1 c
          ∧ r.2.mem ((c.tc : Thread Cert.QuantiseReferenceIdeal.nD Cert.QuantiseReferenceIdeal.τ).loc Cert.QuantiseReferenceIdeal.main_v31_1) = v2 c
          ∧ r.2.mem ((c.tc : Thread Cert.QuantiseReferenceIdeal.nD Cert.QuantiseReferenceIdeal.τ).loc Cert.QuantiseReferenceIdeal.main_v38) = v3 c
          ∧ r.2.mem ((c.tc : Thread Cert.QuantiseReferenceIdeal.nD Cert.QuantiseReferenceIdeal.τ).loc Cert.QuantiseReferenceIdeal.main_v31_2) = v4 c
          ∧ r.2.mem ((c.tc : Thread Cert.QuantiseReferenceIdeal.nD Cert.QuantiseReferenceIdeal.τ).loc Cert.QuantiseReferenceIdeal.main_v39) = v5 c
          ∧ r.2.mem ((c.tc : Thread Cert.QuantiseReferenceIdeal.nD Cert.QuantiseReferenceIdeal.τ).loc Cert.QuantiseReferenceIdeal.main_v31_3) = v6 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_scales_in_range : Cert.Pre_scales_in_range.Facts) (hPre_largest_in_range : Cert.Pre_largest_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ quiescent_Quantise (hQuantise := hQuantise)
    ∧ quiescent_QuantiseIdeal (hQuantiseIdeal := hQuantiseIdeal)
    ∧ quiescent_QuantiseIdeal_pre_largest_in_range (hQuantiseIdeal := hQuantiseIdeal) (hPre_largest_in_range := hPre_largest_in_range)
    ∧ quiescent_QuantiseReferenceIdeal (hQuantiseReferenceIdeal := hQuantiseReferenceIdeal)
    ∧ quiescent_QuantiseReferenceIdeal_pre_largest_in_range (hQuantiseReferenceIdeal := hQuantiseReferenceIdeal) (hPre_largest_in_range := hPre_largest_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
    ∧ preserves_Quantise_QuantiseIdeal
    ∧ algebraic_QuantiseIdeal_QuantiseReferenceIdeal_pre_largest_in_range (hQuantiseIdeal := hQuantiseIdeal) (hQuantiseReferenceIdeal := hQuantiseReferenceIdeal) (hPre_largest_in_range := hPre_largest_in_range)
-- ==== Pre_largest_in_range.lean ====
abbrev S32768x4096 : Shape := ⟨2, ![32768, 4096]⟩
abbrev S256x128x32x128 : Shape := ⟨4, ![256, 128, 32, 128]⟩
abbrev S_ : Shape := ⟨0, ![]⟩
abbrev S256x32 : Shape := ⟨2, ![256, 32]⟩

class Facts : Prop where
  bitsLt_bf16_f32 : FTy.bits .bf16 < FTy.bits .f32
  shapeCasts_S32768x4096_S256x128x32x128 : S32768x4096.ShapeCasts S256x128x32x128
  reducesTo_S256x128x32x128_S256x32_d1_3 : S256x128x32x128.ReducesTo [1, 3] S256x32
  h_S_ : 0 < S_.numel
  bcast_S_S256x32 : S_.BroadcastsInDim S256x32 (![] : Fin 0 → Fin S256x32.rank)

variable [Facts]

def fn_part2 {F : FTy → Type} [FloatOps F] (main_v13 : IVec S256x32 1) (main_v27 : IVec S256x32 1) (main_v33 : FVec F S256x32 .f32) (main_v34 : FVec F S256x32 .f32) : IVec S256x32 1 × IVec S256x32 1 × IVec S256x32 1 :=
  let main_v35 : IVec S256x32 1 := cmpf .oeq main_v33 main_v34
  let main_cst_12 : FVec F S_ .f32 := constant S_ .f32 0x00400000#32
  let main_v36 : FVec F S256x32 .f32 := broadcastInDim S256x32 ![] bcast_S_S256x32 main_cst_12
  let main_v37 : IVec S256x32 1 := cmpf .oge main_v33 main_v36
  let main_cst_13 : FVec F S_ .f32 := constant S_ .f32 0x7E800000#32
  let main_v38 : FVec F S256x32 .f32 := broadcastInDim S256x32 ![] bcast_S_S256x32 main_cst_13
  let main_v39 : IVec S256x32 1 := cmpf .olt main_v33 main_v38
  let main_v40 : IVec S256x32 1 := andi main_v37 main_v39
  let main_v41 : IVec S256x32 1 := ori main_v35 main_v40
  (main_v13, main_v27, main_v41)

def fn_part1 {F : FTy → Type} [FloatOps F] (main_arg2 : FVec F S32768x4096 .bf16) (main_v13 : IVec S256x32 1) (main_v17 : FVec F S256x32 .f32) : IVec S256x32 1 × IVec S256x32 1 × IVec S256x32 1 :=
  let main_cst_5 : FVec F S_ .f32 := constant S_ .f32 0x3B124925#32
  let main_v18 : FVec F S256x32 .f32 := broadcastInDim S256x32 ![] bcast_S_S256x32 main_cst_5
  let main_v19 : FVec F S256x32 .f32 := mulf main_v17 main_v18
  let main_cst_6 : FVec F S_ .f32 := constant S_ .f32 0x00000000#32
  let main_v20 : FVec F S256x32 .f32 := broadcastInDim S256x32 ![] bcast_S_S256x32 main_cst_6
  let main_v21 : IVec S256x32 1 := cmpf .oeq main_v19 main_v20
  let main_cst_7 : FVec F S_ .f32 := constant S_ .f32 0x00400000#32
  let main_v22 : FVec F S256x32 .f32 := broadcastInDim S256x32 ![] bcast_S_S256x32 main_cst_7
  let main_v23 : IVec S256x32 1 := cmpf .oge main_v19 main_v22
  let main_cst_8 : FVec F S_ .f32 := constant S_ .f32 0x7E800000#32
  let main_v24 : FVec F S256x32 .f32 := broadcastInDim S256x32 ![] bcast_S_S256x32 main_cst_8
  let main_v25 : IVec S256x32 1 := cmpf .olt main_v19 main_v24
  let main_v26 : IVec S256x32 1 := andi main_v23 main_v25
  let main_v27 : IVec S256x32 1 := ori main_v21 main_v26
  let main_v28 : FVec F S32768x4096 .f32 := (extf .f32 · bitsLt_bf16_f32) main_arg2
  let main_v29 : FVec F S256x128x32x128 .f32 := shapeCast S256x128x32x128 main_v28 shapeCasts_S32768x4096_S256x128x32x128
  let main_v30 : FVec F S256x128x32x128 .f32 := Host.absf main_v29
  let main_cst_9 : FVec F S_ .f32 := constant S_ .f32 0xFF800000#32
  let main_v31 : FVec F S256x32 .f32 := (fun x v => Host.reduce FloatOps.maximumf x v reducesTo_S256x128x32x128_S256x32_d1_3 h_S_) main_v30 main_cst_9
  let main_cst_10 : FVec F S_ .f32 := constant S_ .f32 0x3B124925#32
  let main_v32 : FVec F S256x32 .f32 := broadcastInDim S256x32 ![] bcast_S_S256x32 main_cst_10
  let main_v33 : FVec F S256x32 .f32 := mulf main_v31 main_v32
  let main_cst_11 : FVec F S_ .f32 := constant S_ .f32 0x00000000#32
  let main_v34 : FVec F S256x32 .f32 := broadcastInDim S256x32 ![] bcast_S_S256x32 main_cst_11
  fn_part2 (F := F) main_v13 main_v27 main_v33 main_v34

def fn {F : FTy → Type} [FloatOps F] (main_arg0 : FVec F S32768x4096 .bf16) (main_arg1 : FVec F S32768x4096 .bf16) (main_arg2 : FVec F S32768x4096 .bf16) : IVec S256x32 1 × IVec S256x32 1 × IVec S256x32 1 :=
  let main_v0 : FVec F S32768x4096 .f32 := (extf .f32 · bitsLt_bf16_f32) main_arg0
  let main_v1 : FVec F S256x128x32x128 .f32 := shapeCast S256x128x32x128 main_v0 shapeCasts_S32768x4096_S256x128x32x128
  let main_v2 : FVec F S256x128x32x128 .f32 := Host.absf main_v1
  let main_cst : FVec F S_ .f32 := constant S_ .f32 0xFF800000#32
  let main_v3 : FVec F S256x32 .f32 := (fun x v => Host.reduce FloatOps.maximumf x v reducesTo_S256x128x32x128_S256x32_d1_3 h_S_) main_v2 main_cst
  let main_cst_0 : FVec F S_ .f32 := constant S_ .f32 0x3B124925#32
  let main_v4 : FVec F S256x32 .f32 := broadcastInDim S256x32 ![] bcast_S_S256x32 main_cst_0
  let main_v5 : FVec F S256x32 .f32 := mulf main_v3 main_v4
  let main_cst_1 : FVec F S_ .f32 := constant S_ .f32 0x00000000#32
  let main_v6 : FVec F S256x32 .f32 := broadcastInDim S256x32 ![] bcast_S_S256x32 main_cst_1
  let main_v7 : IVec S256x32 1 := cmpf .oeq main_v5 main_v6
  let main_cst_2 : FVec F S_ .f32 := constant S_ .f32 0x00400000#32
  let main_v8 : FVec F S256x32 .f32 := broadcastInDim S256x32 ![] bcast_S_S256x32 main_cst_2
  let main_v9 : IVec S256x32 1 := cmpf .oge main_v5 main_v8
  let main_cst_3 : FVec F S_ .f32 := constant S_ .f32 0x7E800000#32
  let main_v10 : FVec F S256x32 .f32 := broadcastInDim S256x32 ![] bcast_S_S256x32 main_cst_3
  let main_v11 : IVec S256x32 1 := cmpf .olt main_v5 main_v10
  let main_v12 : IVec S256x32 1 := andi main_v9 main_v11
  let main_v13 : IVec S256x32 1 := ori main_v7 main_v12
  let main_v14 : FVec F S32768x4096 .f32 := (extf .f32 · bitsLt_bf16_f32) main_arg1
  let main_v15 : FVec F S256x128x32x128 .f32 := shapeCast S256x128x32x128 main_v14 shapeCasts_S32768x4096_S256x128x32x128
  let main_v16 : FVec F S256x128x32x128 .f32 := Host.absf main_v15
  let main_cst_4 : FVec F S_ .f32 := constant S_ .f32 0xFF800000#32
  let main_v17 : FVec F S256x32 .f32 := (fun x v => Host.reduce FloatOps.maximumf x v reducesTo_S256x128x32x128_S256x32_d1_3 h_S_) main_v16 main_cst_4
  fn_part1 (F := F) main_arg2 main_v13 main_v17
-- ==== Pre_scales_in_range.lean ====
abbrev S32768x4096 : Shape := ⟨2, ![32768, 4096]⟩
abbrev S4096x32768 : Shape := ⟨2, ![4096, 32768]⟩
abbrev S32x1x256 : Shape := ⟨3, ![32, 1, 256]⟩
abbrev S_ : Shape := ⟨0, ![]⟩

class Facts : Prop where
  bcast_S_S32x1x256 : S_.BroadcastsInDim S32x1x256 (![] : Fin 0 → Fin S32x1x256.rank)

variable [Facts]

def fn {F : FTy → Type} [FloatOps F] (main_arg0 : FVec F S32768x4096 .fp8e4m3) (main_arg1 : FVec F S32768x4096 .fp8e4m3) (main_arg2 : FVec F S4096x32768 .fp8e4m3) (main_arg3 : FVec F S32x1x256 .f32) (main_arg4 : FVec F S32x1x256 .f32) (main_arg5 : FVec F S32x1x256 .f32) : IVec S32x1x256 1 × IVec S32x1x256 1 × IVec S32x1x256 1 × IVec S32x1x256 1 :=
  let main_cst : FVec F S_ .f32 := constant S_ .f32 0x00000000#32
  let main_v0 : FVec F S32x1x256 .f32 := broadcastInDim S32x1x256 ![] bcast_S_S32x1x256 main_cst
  let main_v1 : IVec S32x1x256 1 := cmpf .ogt main_arg3 main_v0
  let main_cst_0 : FVec F S_ .f32 := constant S_ .f32 0x00000000#32
  let main_v2 : FVec F S32x1x256 .f32 := broadcastInDim S32x1x256 ![] bcast_S_S32x1x256 main_cst_0
  let main_v3 : IVec S32x1x256 1 := cmpf .ogt main_arg4 main_v2
  let main_cst_1 : FVec F S_ .f32 := constant S_ .f32 0x00000000#32
  let main_v4 : FVec F S32x1x256 .f32 := broadcastInDim S32x1x256 ![] bcast_S_S32x1x256 main_cst_1
  let main_v5 : IVec S32x1x256 1 := cmpf .oge main_arg5 main_v4
  let main_cst_2 : FVec F S_ .f32 := constant S_ .f32 0x7F800000#32
  let main_v6 : FVec F S32x1x256 .f32 := broadcastInDim S32x1x256 ![] bcast_S_S32x1x256 main_cst_2
  let main_v7 : IVec S32x1x256 1 := cmpf .olt main_arg5 main_v6
  (main_v1, main_v3, main_v5, main_v7)
-- ==== Kernel.lean ====
abbrev S32768x4096 : Shape := ⟨2, ![32768, 4096]⟩
abbrev S4096x32768 : Shape := ⟨2, ![4096, 32768]⟩
abbrev S32x1x256 : Shape := ⟨3, ![32, 1, 256]⟩
abbrev S1x1x256 : Shape := ⟨3, ![1, 1, 256]⟩
abbrev S256x128 : Shape := ⟨2, ![256, 128]⟩
abbrev S32768x128 : Shape := ⟨2, ![32768, 128]⟩
abbrev S128x32768 : Shape := ⟨2, ![128, 32768]⟩
abbrev S128x256 : Shape := ⟨2, ![128, 256]⟩
abbrev S1x1x1 : Shape := ⟨3, ![1, 1, 1]⟩
abbrev S1x256 : Shape := ⟨2, ![1, 256]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1 : Shape := ⟨2, ![1, 1]⟩

abbrev nBuf : Space → Nat
  | .hbm => 7
  | .vmem => 9
  | .smem => 6
  | _ => 0

abbrev bufTy : (tb : Table) → Fin (tcTables nBuf tb) → BufTy
  | .hbm, ⟨0, _⟩ => ⟨S32768x4096, .fp8e4m3⟩
  | .hbm, ⟨1, _⟩ => ⟨S32768x4096, .fp8e4m3⟩
  | .hbm, ⟨2, _⟩ => ⟨S4096x32768, .fp8e4m3⟩
  | .hbm, ⟨3, _⟩ => ⟨S32x1x256, .f32⟩
  | .hbm, ⟨4, _⟩ => ⟨S32x1x256, .f32⟩
  | .hbm, ⟨5, _⟩ => ⟨S32x1x256, .f32⟩
  | .hbm, ⟨6, _⟩ => ⟨S32768x4096, .bf16⟩
  | .local _ .vmem, ⟨0, _⟩ => ⟨S256x128, .fp8e4m3⟩
  | .local _ .vmem, ⟨1, _⟩ => ⟨S256x128, .fp8e4m3⟩
  | .local _ .vmem, ⟨2, _⟩ => ⟨S32768x128, .fp8e4m3⟩
  | .local _ .vmem, ⟨3, _⟩ => ⟨S32768x128, .fp8e4m3⟩
  | .local _ .vmem, ⟨4, _⟩ => ⟨S128x32768, .fp8e4m3⟩
  | .local _ .vmem, ⟨5, _⟩ => ⟨S128x32768, .fp8e4m3⟩
  | .local _ .vmem, ⟨6, _⟩ => ⟨S256x128, .bf16⟩
  | .local _ .vmem, ⟨7, _⟩ => ⟨S256x128, .bf16⟩
  | .local _ .vmem, ⟨8, _⟩ => ⟨S128x256, .f32⟩
  | .local _ .smem, ⟨0, _⟩ => ⟨S1x1x256, .f32⟩
  | .local _ .smem, ⟨1, _⟩ => ⟨S1x1x256, .f32⟩
  | .local _ .smem, ⟨2, _⟩ => ⟨S1x1x256, .f32⟩
  | .local _ .smem, ⟨3, _⟩ => ⟨S1x1x256, .f32⟩
  | .local _ .smem, ⟨4, _⟩ => ⟨S1x1x256, .f32⟩
  | .local _ .smem, ⟨5, _⟩ => ⟨S1x1x256, .f32⟩
  | _, _ => ⟨S32768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 128], ![false, false]⟩

def k0_off1 (i : grid0.Coords) (c0_i32 : BitVec 32) : Fin 3 → Nat :=
  let c0_1 : Index := 0#32
  let c0_2 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let v3 : Index := Scalar.indexCast v2
  ![0, 0, v3.toNat]
@[reducible] def k0_t1_loop (i : grid0.Coords) : Scf.Loop 32 :=
  let c0_i32_11 : BitVec 32 := 0#32
  let arg1 : BitVec 32 := BitVec.ofNat 32 (i 1).val
  let c2_i32_10 : BitVec 32 := 2#32
  let v15 : BitVec 32 := Scalar.muli arg1 c2_i32_10
  let v16 : BitVec 32 := Scalar.subi v15 c0_i32_11
  let c1_i32_12 : BitVec 32 := 1#32
  let v18 : BitVec 32 := Scalar.divsi v16 c1_i32_12
  let v19 : BitVec 32 := Scalar.muli v18 c1_i32_12
  let v20 : BitVec 32 := Scalar.addi c0_i32_11 v19
  let c1_i32_13 : BitVec 32 := 1#32
  ⟨c0_i32_11, v20, c1_i32_13⟩
def k0_mult1 (i : grid0.Coords) (k0_t1 : Fin (k0_t1_loop i).trips) : BitVec 32 :=
  let c0_i32_11 : BitVec 32 := 0#32
  let c1_i32_13 : BitVec 32 := 1#32
  let arg10 : BitVec 32 := Scf.iv c0_i32_11 c1_i32_13 k0_t1
  let c128_i32_134 : BitVec 32 := 128#32
  let v381 : BitVec 32 := Scalar.muli arg10 c128_i32_134
  v381
def k0_off2 (i : grid0.Coords) (k0_t1 : Fin (k0_t1_loop i).trips) : Fin 3 → Nat :=
  let c0_135 : Index := 0#32
  let c0_136 : Index := 0#32
  let c0_i32_11 : BitVec 32 := 0#32
  let c1_i32_13 : BitVec 32 := 1#32
  let arg10 : BitVec 32 := Scf.iv c0_i32_11 c1_i32_13 k0_t1
  let v383 : Index := Scalar.indexCast arg10
  ![0, 0, v383.toNat]
def k0_off3 (i : grid0.Coords) (k0_t1 : Fin (k0_t1_loop i).trips) : Fin 2 → Nat :=
  let c0_i32_11 : BitVec 32 := 0#32
  let c1_i32_13 : BitVec 32 := 1#32
  let arg10 : BitVec 32 := Scf.iv c0_i32_11 c1_i32_13 k0_t1
  let c128_i32_134 : BitVec 32 := 128#32
  let v381 : BitVec 32 := Scalar.muli arg10 c128_i32_134
  let v382 : BitVec 32 := v381
  let v387 : Index := Scalar.indexCast v382
  let c0_139 : Index := 0#32
  ![v387.toNat, 0]
def k0_off4 (i : grid0.Coords) (k0_t1 : Fin (k0_t1_loop i).trips) : Fin 2 → Nat :=
  let c0_183 : Index := 0#32
  let c0_i32_11 : BitVec 32 := 0#32
  let c1_i32_13 : BitVec 32 := 1#32
  let arg10 : BitVec 32 := Scf.iv c0_i32_11 c1_i32_13 k0_t1
  let c128_i32_134 : BitVec 32 := 128#32
  let v381 : BitVec 32 := Scalar.muli arg10 c128_i32_134
  let v382 : BitVec 32 := v381
  let v530 : Index := Scalar.indexCast v382
  ![0, v530.toNat]
@[reducible] def k0_t2_loop (i : grid0.Coords) : Scf.Loop 32 :=
  let c0_i32_11 : BitVec 32 := 0#32
  let arg1 : BitVec 32 := BitVec.ofNat 32 (i 1).val
  let c2_i32_10 : BitVec 32 := 2#32
  let v15 : BitVec 32 := Scalar.muli arg1 c2_i32_10
  let v16 : BitVec 32 := Scalar.subi v15 c0_i32_11
  let c1_i32_12 : BitVec 32 := 1#32
  let v18 : BitVec 32 := Scalar.divsi v16 c1_i32_12
  let v19 : BitVec 32 := Scalar.muli v18 c1_i32_12
  let v20 : BitVec 32 := Scalar.addi c0_i32_11 v19
  let v17 : BitVec 32 := Scalar.addi c0_i32_11 v16
  let c1_i32_14 : BitVec 32 := 1#32
  ⟨v20, v17, c1_i32_14⟩
def k0_mult2 (i : grid0.Coords) (k0_t2 : Fin (k0_t2_loop i).trips) : BitVec 32 :=
  let c0_i32_11 : BitVec 32 := 0#32
  let arg1 : BitVec 32 := BitVec.ofNat 32 (i 1).val
  let c2_i32_10 : BitVec 32 := 2#32
  let v15 : BitVec 32 := Scalar.muli arg1 c2_i32_10
  let v16 : BitVec 32 := Scalar.subi v15 c0_i32_11
  let c1_i32_12 : BitVec 32 := 1#32
  let v18 : BitVec 32 := Scalar.divsi v16 c1_i32_12
  let v19 : BitVec 32 := Scalar.muli v18 c1_i32_12
  let v20 : BitVec 32 := Scalar.addi c0_i32_11 v19
  let c1_i32_14 : BitVec 32 := 1#32
  let arg10 : BitVec 32 := Scf.iv v20 c1_i32_14 k0_t2
  let c128_i32_134 : BitVec 32 := 128#32
  let v381 : BitVec 32 := Scalar.muli arg10 c128_i32_134
  v381
def k0_off5 (i : grid0.Coords) (k0_t2 : Fin (k0_t2_loop i).trips) : Fin 3 → Nat :=
  let c0_135 : Index := 0#32
  let c0_136 : Index := 0#32
  let c0_i32_11 : BitVec 32 := 0#32
  let arg1 : BitVec 32 := BitVec.ofNat 32 (i 1).val
  let c2_i32_10 : BitVec 32 := 2#32
  let v15 : BitVec 32 := Scalar.muli arg1 c2_i32_10
  let v16 : BitVec 32 := Scalar.subi v15 c0_i32_11
  let c1_i32_12 : BitVec 32 := 1#32
  let v18 : BitVec 32 := Scalar.divsi v16 c1_i32_12
  let v19 : BitVec 32 := Scalar.muli v18 c1_i32_12
  let v20 : BitVec 32 := Scalar.addi c0_i32_11 v19
  let c1_i32_14 : BitVec 32 := 1#32
  let arg10 : BitVec 32 := Scf.iv v20 c1_i32_14 k0_t2
  let v383 : Index := Scalar.indexCast arg10
  ![0, 0, v383.toNat]
def k0_off6 (i : grid0.Coords) (k0_t2 : Fin (k0_t2_loop i).trips) : Fin 2 → Nat :=
  let c0_i32_11 : BitVec 32 := 0#32
  let arg1 : BitVec 32 := BitVec.ofNat 32 (i 1).val
  let c2_i32_10 : BitVec 32 := 2#32
  let v15 : BitVec 32 := Scalar.muli arg1 c2_i32_10
  let v16 : BitVec 32 := Scalar.subi v15 c0_i32_11
  let c1_i32_12 : BitVec 32 := 1#32
  let v18 : BitVec 32 := Scalar.divsi v16 c1_i32_12
  let v19 : BitVec 32 := Scalar.muli v18 c1_i32_12
  let v20 : BitVec 32 := Scalar.addi c0_i32_11 v19
  let c1_i32_14 : BitVec 32 := 1#32
  let arg10 : BitVec 32 := Scf.iv v20 c1_i32_14 k0_t2
  let c128_i32_134 : BitVec 32 := 128#32
  let v381 : BitVec 32 := Scalar.muli arg10 c128_i32_134
  let v382 : BitVec 32 := v381
  let v387 : Index := Scalar.indexCast v382
  let c0_139 : Index := 0#32
  ![v387.toNat, 0]
def k0_off7 (i : grid0.Coords) (k0_t2 : Fin (k0_t2_loop i).trips) : Fin 2 → Nat :=
  let c0_183 : Index := 0#32
  let c0_i32_11 : BitVec 32 := 0#32
  let arg1 : BitVec 32 := BitVec.ofNat 32 (i 1).val
  let c2_i32_10 : BitVec 32 := 2#32
  let v15 : BitVec 32 := Scalar.muli arg1 c2_i32_10
  let v16 : BitVec 32 := Scalar.subi v15 c0_i32_11
  let c1_i32_12 : BitVec 32 := 1#32
  let v18 : BitVec 32 := Scalar.divsi v16 c1_i32_12
  let v19 : BitVec 32 := Scalar.muli v18 c1_i32_12
  let v20 : BitVec 32 := Scalar.addi c0_i32_11 v19
  let c1_i32_14 : BitVec 32 := 1#32
  let arg10 : BitVec 32 := Scf.iv v20 c1_i32_14 k0_t2
  let c128_i32_134 : BitVec 32 := 128#32
  let v381 : BitVec 32 := Scalar.muli arg10 c128_i32_134
  let v382 : BitVec 32 := v381
  let v530 : Index := Scalar.indexCast v382
  ![0, v530.toNat]
def k0_mult3 (i : grid0.Coords) : BitVec 32 :=
  let arg1 : BitVec 32 := BitVec.ofNat 32 (i 1).val
  let c2_i32_15 : BitVec 32 := 2#32
  let v23 : BitVec 32 := Scalar.muli arg1 c2_i32_15
  let c0_i32_16 : BitVec 32 := 0#32
  let v24 : BitVec 32 := Scalar.addi v23 c0_i32_16
  let c128_i32 : BitVec 32 := 128#32
  let v25 : BitVec 32 := Scalar.muli v24 c128_i32
  v25
def k0_off8 (i : grid0.Coords) (c0_i32_16 : BitVec 32) : Fin 2 → Nat :=
  let arg1 : BitVec 32 := BitVec.ofNat 32 (i 1).val
  let c2_i32_15 : BitVec 32 := 2#32
  let v23 : BitVec 32 := Scalar.muli arg1 c2_i32_15
  let v24 : BitVec 32 := Scalar.addi v23 c0_i32_16
  let c128_i32 : BitVec 32 := 128#32
  let v25 : BitVec 32 := Scalar.muli v24 c128_i32
  let v26 : BitVec 32 := v25
  let v31 : Index := Scalar.indexCast v26
  let c0_21 : Index := 0#32
  ![v31.toNat, 0]
def k0_off9 (i : grid0.Coords) (c0_i32_16 : BitVec 32) : Fin 2 → Nat :=
  let c0_64 : Index := 0#32
  let arg1 : BitVec 32 := BitVec.ofNat 32 (i 1).val
  let c2_i32_15 : BitVec 32 := 2#32
  let v23 : BitVec 32 := Scalar.muli arg1 c2_i32_15
  let v24 : BitVec 32 := Scalar.addi v23 c0_i32_16
  let c128_i32 : BitVec 32 := 128#32
  let v25 : BitVec 32 := Scalar.muli v24 c128_i32
  let v26 : BitVec 32 := v25
  let v185 : Index := Scalar.indexCast v26
  ![0, v185.toNat]
def k0_mult4 (i : grid0.Coords) : BitVec 32 :=
  let arg1 : BitVec 32 := BitVec.ofNat 32 (i 1).val
  let c2_i32_70 : BitVec 32 := 2#32
  let v199 : BitVec 32 := Scalar.muli arg1 c2_i32_70
  let c1_i32_71 : BitVec 32 := 1#32
  let v200 : BitVec 32 := Scalar.addi v199 c1_i32_71
  let c128_i32_72 : BitVec 32 := 128#32
  let v201 : BitVec 32 := Scalar.muli v200 c128_i32_72
  v201
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .smem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .smem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32768x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x32768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x4096 : Shape := ⟨2, ![32768, 4096]⟩
abbrev S4096x32768 : Shape := ⟨2, ![4096, 32768]⟩
abbrev S32x1x256 : Shape := ⟨3, ![32, 1, 256]⟩
abbrev S32x256x1 : Shape := ⟨3, ![32, 256, 1]⟩
abbrev S32x256x128 : Shape := ⟨3, ![32, 256, 128]⟩
abbrev S32x32768 : Shape := ⟨2, ![32, 32768]⟩
abbrev S32768x32x128 : Shape := ⟨3, ![32768, 32, 128]⟩
abbrev S32x128x32768 : Shape := ⟨3, ![32, 128, 32768]⟩
abbrev S32x1x32768 : Shape := ⟨3, ![32, 1, 32768]⟩
abbrev S32x32768x32768 : Shape := ⟨3, ![32, 32768, 32768]⟩
abbrev S32x32768x1 : Shape := ⟨3, ![32, 32768, 1]⟩
abbrev S_ : Shape := ⟨0, ![]⟩
abbrev S32768 : Shape := ⟨1, ![32768]⟩
abbrev S1x32768 : Shape := ⟨2, ![1, 32768]⟩
abbrev S32768x1 : Shape := ⟨2, ![32768, 1]⟩
abbrev S32768x32768 : Shape := ⟨2, ![32768, 32768]⟩

abbrev nBuf : Space → Nat
  | .hbm => 59
  | .vmem => 6
  | .smem => 0
  | _ => 0

abbrev bufTy : (tb : Table) → Fin (tcTables nBuf tb) → BufTy
  | .hbm, ⟨0, _⟩ => ⟨S32768x4096, .fp8e4m3⟩
  | .hbm, ⟨1, _⟩ => ⟨S32768x4096, .fp8e4m3⟩
  | .hbm, ⟨2, _⟩ => ⟨S4096x32768, .fp8e4m3⟩
  | .hbm, ⟨3, _⟩ => ⟨S32x1x256, .f32⟩
  | .hbm, ⟨4, _⟩ => ⟨S32x1x256, .f32⟩
  | .hbm, ⟨5, _⟩ => ⟨S32x1x256, .f32⟩
  | .hbm, ⟨6, _⟩ => ⟨S32768x4096, .f32⟩
  | .hbm, ⟨7, _⟩ => ⟨S32768x4096, .f32⟩
  | .hbm, ⟨8, _⟩ => ⟨S4096x32768, .f32⟩
  | .hbm, ⟨9, _⟩ => ⟨S32x256x1, .f32⟩
  | .hbm, ⟨10, _⟩ => ⟨S32x256x128, .f32⟩
  | .hbm, ⟨11, _⟩ => ⟨S32x32768, .f32⟩
  | .hbm, ⟨12, _⟩ => ⟨S32x256x1, .f32⟩
  | .hbm, ⟨13, _⟩ => ⟨S32x256x128, .f32⟩
  | .hbm, ⟨14, _⟩ => ⟨S32x32768, .f32⟩
  | .hbm, ⟨15, _⟩ => ⟨S32x256x1, .f32⟩
  | .hbm, ⟨16, _⟩ => ⟨S32x256x128, .f32⟩
  | .hbm, ⟨17, _⟩ => ⟨S32x32768, .f32⟩
  | .hbm, ⟨18, _⟩ => ⟨S32768x32x128, .f32⟩
  | .hbm, ⟨19, _⟩ => ⟨S32768x32x128, .f32⟩
  | .hbm, ⟨20, _⟩ => ⟨S32x128x32768, .f32⟩
  | .hbm, ⟨21, _⟩ => ⟨S32x1x32768, .f32⟩
  | .hbm, ⟨22, _⟩ => ⟨S32x128x32768, .f32⟩
  | .hbm, ⟨23, _⟩ => ⟨S32x128x32768, .f32⟩
  | .hbm, ⟨24, _⟩ => ⟨S32x32768x32768, .f32⟩
  | .hbm, ⟨25, _⟩ => ⟨S32x32768x1, .f32⟩
  | .hbm, ⟨26, _⟩ => ⟨S32x1x32768, .f32⟩
  | .hbm, ⟨27, _⟩ => ⟨S32x32768x32768, .f32⟩
  | .hbm, ⟨28, _⟩ => ⟨S32x32768x32768, .f32⟩
  | .hbm, ⟨29, _⟩ => ⟨S32x32768x32768, .f32⟩
  | .hbm, ⟨30, _⟩ => ⟨S_, .f32⟩
  | .hbm, ⟨31, _⟩ => ⟨S32x32768x32768, .f32⟩
  | .hbm, ⟨32, _⟩ => ⟨S32x32768x32768, .f32⟩
  | .hbm, ⟨33, _⟩ => ⟨S32x32768x32768, .f32⟩
  | .hbm, ⟨34, _⟩ => ⟨S32768, .i32⟩
  | .hbm, ⟨35, _⟩ => ⟨S1x32768, .i32⟩
  | .hbm, ⟨36, _⟩ => ⟨S32768x1, .i32⟩
  | .hbm, ⟨37, _⟩ => ⟨S32768x32768, .i32⟩
  | .hbm, ⟨38, _⟩ => ⟨S32768x32768, .i32⟩
  | .hbm, ⟨39, _⟩ => ⟨S32768x32768, .i1⟩
  | .hbm, ⟨40, _⟩ => ⟨S32x32768x32768, .i1⟩
  | .hbm, ⟨41, _⟩ => ⟨S_, .f32⟩
  | .hbm, ⟨42, _⟩ => ⟨S32x32768x32768, .f32⟩
  | .hbm, ⟨43, _⟩ => ⟨S32x32768x32768, .f32⟩
  | .hbm, ⟨44, _⟩ => ⟨S_, .f32⟩
  | .hbm, ⟨45, _⟩ => ⟨S32x32768, .f32⟩
  | .hbm, ⟨46, _⟩ => ⟨S32x32768x1, .f32⟩
  | .hbm, ⟨47, _⟩ => ⟨S32x32768x32768, .f32⟩
  | .hbm, ⟨48, _⟩ => ⟨S32x32768x32768, .f32⟩
  | .hbm, ⟨49, _⟩ => ⟨S32x32768x32768, .f32⟩
  | .hbm, ⟨50, _⟩ => ⟨S_, .f32⟩
  | .hbm, ⟨51, _⟩ => ⟨S32x32768, .f32⟩
  | .hbm, ⟨52, _⟩ => ⟨S32x128x32768, .f32⟩
  | .hbm, ⟨53, _⟩ => ⟨S32x1x32768, .f32⟩
  | .hbm, ⟨54, _⟩ => ⟨S32x128x32768, .f32⟩
  | .hbm, ⟨55, _⟩ => ⟨S32x128x32768, .f32⟩
  | .hbm, ⟨56, _⟩ => ⟨S4096x32768, .f32⟩
  | .hbm, ⟨57, _⟩ => ⟨S4096x32768, .bf16⟩
  | .hbm, ⟨58, _⟩ => ⟨S32768x4096, .bf16⟩
  | .local _ .vmem, ⟨0, _⟩ => ⟨S32768x4096, .fp8e4m3⟩
  | .local _ .vmem, ⟨1, _⟩ => ⟨S32768x4096, .fp8e4m3⟩
  | .local _ .vmem, ⟨2, _⟩ => ⟨S4096x32768, .fp8e4m3⟩
  | .local _ .vmem, ⟨3, _⟩ => ⟨S32768x4096, .f32⟩
  | .local _ .vmem, ⟨4, _⟩ => ⟨S32768x4096, .f32⟩
  | .local _ .vmem, ⟨5, _⟩ => ⟨S4096x32768, .f32⟩
  | _, _ => ⟨S32768x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quantise.lean ====
abbrev S32768x4096 : Shape := ⟨2, ![32768, 4096]⟩
abbrev S256x1x4096 : Shape := ⟨3, ![256, 1, 4096]⟩
abbrev S4096x32768 : Shape := ⟨2, ![4096, 32768]⟩
abbrev S256x4096 : Shape := ⟨2, ![256, 4096]⟩
abbrev S2x1x4096 : Shape := ⟨3, ![2, 1, 4096]⟩
abbrev S4096x256 : Shape := ⟨2, ![4096, 256]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S1x1x128 : Shape := ⟨3, ![1, 1, 128]⟩

abbrev nBuf : Space → Nat
  | .hbm => 10
  | .vmem => 20
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .bf16⟩
  | .hbm, ⟨2, _⟩ => ⟨S32768x4096, .bf16⟩
  | .hbm, ⟨3, _⟩ => ⟨S32768x4096, .fp8e4m3⟩
  | .hbm, ⟨4, _⟩ => ⟨S256x1x4096, .f32⟩
  | .hbm, ⟨5, _⟩ => ⟨S32768x4096, .fp8e4m3⟩
  | .hbm, ⟨6, _⟩ => ⟨S256x1x4096, .f32⟩
  | .hbm, ⟨7, _⟩ => ⟨S32768x4096, .fp8e4m3⟩
  | .hbm, ⟨8, _⟩ => ⟨S256x1x4096, .f32⟩
  | .hbm, ⟨9, _⟩ => ⟨S4096x32768, .fp8e4m3⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .fp8e4m3⟩
  | .local _ .vmem, ⟨7, _⟩ => ⟨S256x4096, .fp8e4m3⟩
  | .local _ .vmem, ⟨8, _⟩ => ⟨S2x1x4096, .f32⟩
  | .local _ .vmem, ⟨9, _⟩ => ⟨S2x1x4096, .f32⟩
  | .local _ .vmem, ⟨10, _⟩ => ⟨S256x4096, .fp8e4m3⟩
  | .local _ .vmem, ⟨11, _⟩ => ⟨S256x4096, .fp8e4m3⟩
  | .local _ .vmem, ⟨12, _⟩ => ⟨S2x1x4096, .f32⟩
  | .local _ .vmem, ⟨13, _⟩ => ⟨S2x1x4096, .f32⟩
  | .local _ .vmem, ⟨14, _⟩ => ⟨S256x4096, .fp8e4m3⟩
  | .local _ .vmem, ⟨15, _⟩ => ⟨S256x4096, .fp8e4m3⟩
  | .local _ .vmem, ⟨16, _⟩ => ⟨S2x1x4096, .f32⟩
  | .local _ .vmem, ⟨17, _⟩ => ⟨S2x1x4096, .f32⟩
  | .local _ .vmem, ⟨18, _⟩ => ⟨S4096x256, .fp8e4m3⟩
  | .local _ .vmem, ⟨19, _⟩ => ⟨S4096x256, .fp8e4m3⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QuantiseReferenceIdeal.lean ====
abbrev S32768x4096 : Shape := ⟨2, ![32768, 4096]⟩
abbrev S98304x4096 : Shape := ⟨2, ![98304, 4096]⟩
abbrev S768x128x32x128 : Shape := ⟨4, ![768, 128, 32, 128]⟩
abbrev S_ : Shape := ⟨0, ![]⟩
abbrev S768x32 : Shape := ⟨2, ![768, 32]⟩
abbrev S768x1x32x1 : Shape := ⟨4, ![768, 1, 32, 1]⟩
abbrev S4096x32768 : Shape := ⟨2, ![4096, 32768]⟩
abbrev S768x32x1 : Shape := ⟨3, ![768, 32, 1]⟩
abbrev S768x32x128 : Shape := ⟨3, ![768, 32, 128]⟩
abbrev S768x1x4096 : Shape := ⟨3, ![768, 1, 4096]⟩
abbrev S256x1x4096 : Shape := ⟨3, ![256, 1, 4096]⟩

abbrev nBuf : Space → Nat
  | .hbm => 63
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .bf16⟩
  | .hbm, ⟨2, _⟩ => ⟨S32768x4096, .bf16⟩
  | .hbm, ⟨3, _⟩ => ⟨S98304x4096, .bf16⟩
  | .hbm, ⟨4, _⟩ => ⟨S98304x4096, .f32⟩
  | .hbm, ⟨5, _⟩ => ⟨S768x128x32x128, .f32⟩
  | .hbm, ⟨6, _⟩ => ⟨S768x128x32x128, .f32⟩
  | .hbm, ⟨7, _⟩ => ⟨S_, .f32⟩
  | .hbm, ⟨8, _⟩ => ⟨S768x32, .f32⟩
  | .hbm, ⟨9, _⟩ => ⟨S_, .f32⟩
  | .hbm, ⟨10, _⟩ => ⟨S768x32, .f32⟩
  | .hbm, ⟨11, _⟩ => ⟨S768x32, .f32⟩
  | .hbm, ⟨12, _⟩ => ⟨S768x32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S768x32, .f32⟩
  | .hbm, ⟨17, _⟩ => ⟨S768x32, .f32⟩
  | .hbm, ⟨18, _⟩ => ⟨S768x32, .f32⟩
  | .hbm, ⟨19, _⟩ => ⟨S_, .f32⟩
  | .hbm, ⟨20, _⟩ => ⟨S768x32, .f32⟩
  | .hbm, ⟨21, _⟩ => ⟨S768x32, .f32⟩
  | .hbm, ⟨22, _⟩ => ⟨S_, .f32⟩
  | .hbm, ⟨23, _⟩ => ⟨S768x32, .f32⟩
  | .hbm, ⟨24, _⟩ => ⟨S768x32, .i1⟩
  | .hbm, ⟨25, _⟩ => ⟨S_, .f32⟩
  | .hbm, ⟨26, _⟩ => ⟨S_, .f32⟩
  | .hbm, ⟨27, _⟩ => ⟨S768x32, .f32⟩
  | .hbm, ⟨28, _⟩ => ⟨S768x32, .f32⟩
  | .hbm, ⟨29, _⟩ => ⟨S768x32, .f32⟩
  | .hbm, ⟨30, _⟩ => ⟨S_, .f32⟩
  | .hbm, ⟨31, _⟩ => ⟨S768x32, .f32⟩
  | .hbm, ⟨32, _⟩ => ⟨S768x32, .f32⟩
  | .hbm, ⟨33, _⟩ => ⟨S768x1x32x1, .f32⟩
  | .hbm, ⟨34, _⟩ => ⟨S768x128x32x128, .f32⟩
  | .hbm, ⟨35, _⟩ => ⟨S768x128x32x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S768x128x32x128, .f32⟩
  | .hbm, ⟨40, _⟩ => ⟨S768x128x32x128, .f32⟩
  | .hbm, ⟨41, _⟩ => ⟨S_, .f32⟩
  | .hbm, ⟨42, _⟩ => ⟨S768x128x32x128, .f32⟩
  | .hbm, ⟨43, _⟩ => ⟨S768x128x32x128, .f32⟩
  | .hbm, ⟨44, _⟩ => ⟨S98304x4096, .f32⟩
  | .hbm, ⟨45, _⟩ => ⟨S32768x4096, .f32⟩
  | .hbm, ⟨46, _⟩ => ⟨S32768x4096, .f32⟩
  | .hbm, ⟨47, _⟩ => ⟨S32768x4096, .f32⟩
  | .hbm, ⟨48, _⟩ => ⟨S4096x32768, .f32⟩
  | .hbm, ⟨49, _⟩ => ⟨S4096x32768, .f32⟩
  | .hbm, ⟨50, _⟩ => ⟨S32768x4096, .fp8e4m3⟩
  | .hbm, ⟨51, _⟩ => ⟨S32768x4096, .fp8e4m3⟩
  | .hbm, ⟨52, _⟩ => ⟨S32768x4096, .fp8e4m3⟩
  | .hbm, ⟨53, _⟩ => ⟨S4096x32768, .fp8e4m3⟩
  | .hbm, ⟨54, _⟩ => ⟨S_, .f32⟩
  | .hbm, ⟨55, _⟩ => ⟨S768x32, .f32⟩
  | .hbm, ⟨56, _⟩ => ⟨S768x32, .f32⟩
  | .hbm, ⟨57, _⟩ => ⟨S768x32x1, .f32⟩
  | .hbm, ⟨58, _⟩ => ⟨S768x32x128, .f32⟩
  | .hbm, ⟨59, _⟩ => ⟨S768x1x4096, .f32⟩
  | .hbm, ⟨60, _⟩ => ⟨S256x1x4096, .f32⟩
  | .hbm, ⟨61, _⟩ => ⟨S256x1x4096, .f32⟩
  | .hbm, ⟨62, _⟩ => ⟨S256x1x4096, .f32⟩
  | .local _ .vmem, ⟨0, _⟩ => ⟨S32768x4096, .f32⟩
  | .local _ .vmem, ⟨1, _⟩ => ⟨S32768x4096, .f32⟩
  | .local _ .vmem, ⟨2, _⟩ => ⟨S32768x4096, .f32⟩
  | .local _ .vmem, ⟨3, _⟩ => ⟨S4096x32768, .f32⟩
  | .local _ .vmem, ⟨4, _⟩ => ⟨S32768x4096, .fp8e4m3⟩
  | .local _ .vmem, ⟨5, _⟩ => ⟨S32768x4096, .fp8e4m3⟩
  | .local _ .vmem, ⟨6, _⟩ => ⟨S32768x4096, .fp8e4m3⟩
  | .local _ .vmem, ⟨7, _⟩ => ⟨S4096x32768, .fp8e4m3⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_v31_2 : Ref sig .tc := ⟨.hbm, 52, rfl⟩
abbrev main_v31_3 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x32768 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Step.lean ====
/- One block of keys, as the kernel computes it: the new running maximum, the new denominator and the new
   numerator of 256 queries from the old ones and the block's scores. The queries are two lanes of 128, each with
   its own scale and its own exponent. The definitions hold for any float values; that the kernel's loop body and
   its two masked blocks are these is in `Trip` and `Block`, what they are over the extended reals in `Lane`. -/
module

public import proofs.«01_k».proof.Proof.Gen.KernelIdeal.Skeleton

@[expose] public section

noncomputable section

namespace Cert.Attn

open Cert.KernelIdeal Cert.KernelIdeal.Gen Idealize.ShloMosaic

variable {F : FTy → Type} [FloatOps F] [Named F]

/-- The factor from a score to a logit in base two: both scales, `1/√128` and `log₂ e`. -/
def factor (qs ks : Elt F .f32) : F .f32 :=
  Scalar.mulf (Scalar.mulf (Scalar.mulf qs ks) (Scalar.ofBits .f32 0x3DB504F3#32)) (Named.named κ "log2e" 0x3FB8AA3B#32)

/-- The scores of a block of keys against the queries. -/
def scores (q : Vec F S256x128 .fp8e4m3) (k : Vec F S128x128 .fp8e4m3) : FVec F S128x256 .f32 :=
  matmul dot_S128x128_S256x128_S128x256_1_1_0_0_n_n none k q (constant S128x256 .f32 0x00000000#32)

/-- The scores of block `b` of keys, `-∞` where the key comes after the query of step `g`. -/
def masked (b g : BitVec 32) (s : FVec F S128x256 .f32) : FVec F S128x256 .f32 :=
  select (cmpi .sle
      (addi (broadcast S128x256 (Scalar.muli b 128#32)) (iota .tc S128x256 32 [0] iota_S128x256_d0_w32))
      (addi (broadcast S128x256 (Scalar.muli g 256#32)) (iota .tc S128x256 32 [1] iota_S128x256_d1_w32)))
    s (broadcast S128x256 (Scalar.ofBits .f32 0xFF800000#32))

/-! ### One lane of 128 queries -/

def lane0 (x : FVec F S128x256 .f32) : FVec F S128x128 .f32 := extractStridedSlice S128x128 ![0, 0] x slices_S128x256_o0_0_S128x128
def lane1 (x : FVec F S128x256 .f32) : FVec F S128x128 .f32 := extractStridedSlice S128x128 ![0, 128] x slices_S128x256_o0_128_S128x128
def row0 (x : FVec F S1x256 .f32) : FVec F S1x128 .f32 := extractStridedSlice S1x128 ![0, 0] x slices_S1x256_o0_0_S1x128
def row1 (x : FVec F S1x256 .f32) : FVec F S1x128 .f32 := extractStridedSlice S1x128 ![0, 128] x slices_S1x256_o0_128_S1x128

/-- The largest logit of the block, per query. -/
def peak (s : FVec F S128x128 .f32) (c : F .f32) : FVec F S1x128 .f32 :=
  mulf (shapeCast S1x128 (multiReduction .maximumf [0] S128 s 0xFF800000#32 reduces_S128x128_S128 (.inl rfl) rfl) shapeCasts_S128_S1x128)
    (broadcast S1x128 c)

/-- The new running maximum. -/
def runMax (m : FVec F S1x128 .f32) (s : FVec F S128x128 .f32) (c : F .f32) : FVec F S1x128 .f32 := maximumf m (peak s c)

/-- The largest probability of the lane over `448`. -/
def ratio (m : FVec F S1x128 .f32) (s : FVec F S128x128 .f32) (c : F .f32) : FVec F S1x128 .f32 :=
  mulf (broadcastTo S1x128 (shapeCast S1x1 (shapeCast S1x1 (multiReduction .maximumf [1] S1 (exp2 (subf (peak s c) m)) 0xFF800000#32
      reduces_S1x128_S1 (.inl rfl) rfl) shapeCasts_S1_S1x1) shapeCasts_S1x1_S1x1) broadcasts_S1x1_S1x128)
    (broadcast S1x128 (Scalar.ofBits .f32 0x3B124925#32))

/-- Row `n` holds the value of the word whose exponent field is `n` and whose other bits are zero. -/
def fields : FVec F S256x128 .f32 :=
  bitcastToFloat .f32 (shli (addi (subi (iota .tc S256x128 32 [0] iota_S256x128_d0_w32) (broadcast S256x128 127#32))
    (broadcast S256x128 127#32)) (broadcast S256x128 23#32))

/-- The exponent of the least power of two above `y` (zero for `y = 0`): counts the fields that start at or below `y`. -/
def exponent (y : FVec F S1x128 .f32) : IVec S1x128 32 :=
  select (cmpf .oeq y (broadcast S1x128 (Scalar.ofBits .f32 0x00000000#32))) (broadcast S1x128 0#32)
    (subi (subi (shapeCast S1x128 (multiReductionI .add [0] S128
        (select (cmpf .olt (broadcastTo S256x128 y broadcasts_S1x128_S256x128) fields) (broadcast S256x128 0#32) (broadcast S256x128 1#32))
        0#32 reduces_S256x128_S128 rfl) shapeCasts_S128_S1x128) (broadcast S1x128 1#32)) (broadcast S1x128 126#32))

/-- The power of two of an exponent. -/
def pow2 (e : IVec S1x128 32) : FVec F S1x128 .f32 :=
  bitcastToFloat .f32 (shli (addi e (broadcast S1x128 127#32)) (broadcast S1x128 23#32))

/-- The lane's exponent. -/
def laneExp (m : FVec F S1x128 .f32) (s : FVec F S128x128 .f32) (c : F .f32) : IVec S1x128 32 := exponent (ratio m s c)

/-- The probabilities over the lane's power of two. -/
def probs (m : FVec F S1x128 .f32) (s : FVec F S128x128 .f32) (c : F .f32) : FVec F S128x128 .f32 :=
  exp2 (subf (mulf s (broadcast S128x128 c))
    (broadcastTo S128x128 (addf m (sitofp .f32 (laneExp m s c))) broadcasts_S1x128_S128x128))

/-- The codes of the probabilities. -/
def codes (p : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) p)) bitsLt_fp8e4m3_f32

/-- What the block adds to the lane's denominators. -/
def laneSum (m : FVec F S1x128 .f32) (s : FVec F S128x128 .f32) (c : F .f32) : FVec F S1x128 .f32 :=
  mulf (shapeCast S1x128 (multiReduction .add [0] S128 (probs m s c) 0x00000000#32 reduces_S128x128_S128 (.inl rfl) rfl) shapeCasts_S128_S1x128)
    (pow2 (laneExp m s c))

/-- The factor of the lane's products with the values. -/
def laneWeight (m : FVec F S1x128 .f32) (s : FVec F S128x128 .f32) (c : F .f32) (vs : Elt F .f32) : FVec F S1x128 .f32 :=
  mulf (pow2 (laneExp m s c)) (broadcast S1x128 vs)

/-! ### Both lanes -/

/-- Two lanes side by side. -/
def beside (x y : FVec F S1x128 .f32) : FVec F S1x256 .f32 :=
  concatenate S1x256 1 [⟨S1x128, x⟩, ⟨S1x128, y⟩] concatenates_S1x128_S1x128_S1x256_d1

/-- The running maxima after a block with scores `s` and factors `c0`, `c1`. -/
def stepMax (m : FVec F S1x256 .f32) (s : FVec F S128x256 .f32) (c0 c1 : F .f32) : FVec F S1x256 .f32 :=
  beside (runMax (row0 m) (lane0 s) c0) (runMax (row1 m) (lane1 s) c1)

/-- The denominators after the block. -/
def stepSum (m l : FVec F S1x256 .f32) (s : FVec F S128x256 .f32) (c0 c1 : F .f32) : FVec F S1x256 .f32 :=
  addf (mulf (exp2 (subf m (stepMax m s c0 c1))) l)
    (beside (laneSum (runMax (row0 m) (lane0 s) c0) (lane0 s) c0) (laneSum (runMax (row1 m) (lane1 s) c1) (lane1 s) c1))

/-- The numerators after the block, whose values are `v` with scale `vs`. -/
def stepAcc (m : FVec F S1x256 .f32) (acc : Vec F S128x256 .f32) (s : FVec F S128x256 .f32) (c0 c1 : F .f32)
    (v : Vec F S128x128 .fp8e4m3) (vs : Elt F .f32) : FVec F S128x256 .f32 :=
  shapeCast S128x256 (addf (mulf (broadcastTo S128x256 (exp2 (subf m (stepMax m s c0 c1))) broadcasts_S1x256_S128x256) acc)
    (mulf (matmul dot_S128x128_S128x256_S128x256_1_0_0_1_n_n none v
        (concatenate S128x256 1 [⟨S128x128, codes (probs (runMax (row0 m) (lane0 s) c0) (lane0 s) c0)⟩,
          ⟨S128x128, codes (probs (runMax (row1 m) (lane1 s) c1) (lane1 s) c1)⟩] concatenates_S128x128_S128x128_S128x256_d1)
        (constant S128x256 .f32 0x00000000#32))
      (broadcastTo S128x256 (beside (laneWeight (runMax (row0 m) (lane0 s) c0) (lane0 s) c0 vs)
        (laneWeight (runMax (row1 m) (lane1 s) c1) (lane1 s) c1 vs)) broadcasts_S1x256_S128x256)))
    shapeCasts_S128x256_S128x256

/-- The block of the result: numerators over denominators, queries first. -/
def finish (acc : Vec F S128x256 .f32) (l : FVec F S1x256 .f32) : FVec F S256x128 .bf16 :=
  truncf .bf16 (transpose S256x128 [1, 0] (divf acc (broadcastTo S128x256 l broadcasts_S1x256_S128x256))
    transposes_S128x256_p1_0_S256x128) bitsLt_bf16_f32

end Cert.Attn

end
-- ==== Proof.Exponent.lean ====
/- The exponent a lane takes: the least power of two above a number below one, found by counting the powers of two at or
   below it. -/
module

public import proofs.«01_k».proof.Proof.Step
public import Idealize.ShloMosaic.Lib.Pointwise

@[expose] public section

noncomputable section

namespace Cert.Attn

open Cert.KernelIdeal Cert.KernelIdeal.Gen Idealize.ShloMosaic Idealize.ShloMosaic.TcCoe Idealize.SL.Sem
open Idealize.ShloMosaic.Pointwise

/-! ### The value of a word with one exponent field -/

/-- The value of the word with exponent field `n` and no other bit. -/
def fieldValue (n : ℕ) : EReal := if n = 0 then 0 else if n = 255 then ⊤ else (((2 : ℝ) ^ ((n : ℤ) - 127) : ℝ) : EReal)

theorem field_bits : ∀ n : Fin 256, let w := BitVec.ofNat 32 n.val <<< 23
    w.extractLsb' 31 1 = 0#1 ∧ (w.extractLsb' 23 8).toNat = n.val ∧ (w.extractLsb' 0 23).toNat = 0 := by
  decide +kernel

theorem ofBits_field (n : ℕ) (hn : n < 256) : Ideal.ofBits .f32 (BitVec.ofNat 32 n <<< 23) = fieldValue n := by
  obtain ⟨h1, h2, h3⟩ := field_bits ⟨n, hn⟩
  simp only at h1 h2 h3
  unfold Ideal.ofBits Ideal.ieee fieldValue
  simp only [Nat.reduceAdd, h1, h2, h3]
  by_cases h0 : n = 0
  · simp [h0]
  · by_cases h255 : n = 255
    · simp [h255]
    · simp only [h0, h255, if_false]
      rw [if_neg (by omega)]
      have e : (n : ℤ) - 127 = 23 + ((n : ℤ) - (2 ^ (8 - 1) - 1) - ((23 : ℕ) : ℤ)) := by norm_num
      rw [e, zpow_add₀ (by norm_num)]
      norm_num

/-- A sum of zeros and ones is a count. -/
theorem fold_count {ι : Type} [DecidableEq ι] (s : Finset ι) (p : ι → Prop) [DecidablePred p] :
    s.fold IntOp.addi 0#32 (fun k => if p k then 0#32 else 1#32) = BitVec.ofNat 32 (s.filter fun k => ¬ p k).card := by
  induction s using Finset.induction_on with
  | empty => rfl
  | insert a s ha ih =>
    rw [Finset.fold_insert ha, ih, Finset.filter_insert]
    by_cases h : p a
    · simp [h, IntOp.addi]
    · rw [if_neg h, if_pos h, Finset.card_insert_of_notMem (fun hm => ha (Finset.mem_filter.1 hm).1), Nat.add_comm, BitVec.ofNat_add]
      rfl

/-- How many fields below 256 start at or below `r`. -/
def countBelow (r : ℝ) : ℕ := (Finset.univ.filter fun k : Fin 256 => ¬ ((r : EReal) < fieldValue k.val)).card

theorem fieldValue_mono {a b : ℕ} (h : a ≤ b) (hb : b < 256) : fieldValue a ≤ fieldValue b := by
  unfold fieldValue
  by_cases ha0 : a = 0
  · rw [if_pos ha0]
    split_ifs
    · exact le_rfl
    · exact le_top
    · exact EReal.coe_nonneg.2 (by positivity)
  · rw [if_neg ha0, if_neg (show ¬ b = 0 by omega)]
    by_cases hb5 : b = 255
    · rw [if_pos hb5]; exact le_top
    · rw [if_neg hb5, if_neg (show ¬ a = 255 by omega)]
      exact EReal.coe_le_coe_iff.2 (zpow_le_zpow_right₀ (by norm_num) (by omega))

/-- A number in `[0, 1)` lies below the field its count names, and the count is between 1 and 127. -/
theorem countBelow_spec (r : ℝ) (h0 : 0 ≤ r) (h1 : r < 1) :
    1 ≤ countBelow r ∧ countBelow r ≤ 127 ∧ r < (2 : ℝ) ^ ((countBelow r : ℤ) - 127) := by
  have hex : ∃ n : ℕ, (r : EReal) < fieldValue n := ⟨127, by
    have : fieldValue 127 = ((1 : ℝ) : EReal) := by simp [fieldValue]
    rw [this]; exact EReal.coe_lt_coe_iff.2 h1⟩
  classical
  obtain ⟨N, hN⟩ : ∃ N, N = Nat.find hex := ⟨_, rfl⟩
  have hspec : (r : EReal) < fieldValue N := hN ▸ Nat.find_spec hex
  have hle : N ≤ 127 := hN ▸ Nat.find_min' hex (by
    have : fieldValue 127 = ((1 : ℝ) : EReal) := by simp [fieldValue]
    rw [this]; exact EReal.coe_lt_coe_iff.2 h1)
  have hpos : N ≠ 0 := by
    rintro rfl
    have : fieldValue 0 = 0 := by simp [fieldValue]
    rw [this] at hspec
    exact absurd hspec (not_lt.2 (EReal.coe_nonneg.2 h0))
  have hmin : ∀ k, k < N → ¬ (r : EReal) < fieldValue k := fun k hk => Nat.find_min hex (hN ▸ hk)
  have hc : countBelow r = N := by
    unfold countBelow
    have hset : (Finset.univ.filter fun k : Fin 256 => ¬ ((r : EReal) < fieldValue k.val)) = Finset.univ.filter fun k : Fin 256 => k.val < N := by
      ext k
      simp only [Finset.mem_filter, Finset.mem_univ, true_and]
      refine ⟨fun h => ?_, fun h => hmin k.val h⟩
      by_contra hk
      exact h (hspec.trans_le (fieldValue_mono (by omega) k.isLt))
    rw [hset, Fin.card_filter_val_lt]
    omega
  rw [hc]
  refine ⟨by omega, hle, ?_⟩
  unfold fieldValue at hspec
  rw [if_neg hpos, if_neg (by omega)] at hspec
  exact EReal.coe_lt_coe_iff.1 hspec

/-- The exponent word of a number in `[0, 1)`. -/
theorem exponent_at (y : FVec Ideal S1x128 .f32) (j : S1x128.Idx) (r : ℝ) (hr : y j = (r : EReal)) (h0 : 0 ≤ r) (h1 : r < 1) :
    ∃ n : ℕ, 1 ≤ n ∧ n ≤ 127 ∧ r < (2 : ℝ) ^ ((n : ℤ) - 127) ∧ exponent y j = BitVec.ofNat 32 n - 1#32 - 126#32 := by
  by_cases hz : r = 0
  · refine ⟨127, by norm_num, le_rfl, by rw [hz]; norm_num, ?_⟩
    subst hz
    revert hr
    idx_vars j
    intro hr
    pointwise [exponent, fields]
    rw [if_pos (by rw [hr]; rfl)]
    rfl
  · obtain ⟨ha, hb, hc⟩ := countBelow_spec r h0 h1
    refine ⟨countBelow r, ha, hb, hc, ?_⟩
    revert hr
    idx_vars j
    intro hr
    pointwise [exponent, fields]
    have hj : (0 : Fin 1) = j0 := Subsingleton.elim _ _
    have hy : y (ix2 0 j1) = (r : EReal) := by rw [hj]; exact hr
    have hw : ∀ x : Fin 256, IntOp.shli ArithUnit.vector (IntOp.addi (IntOp.subi (BitVec.ofNat 32 x.val) 127#32) 127#32) 23#32
        = BitVec.ofNat 32 x.val <<< 23 := by decide +kernel
    rw [if_neg (by rw [hr]; simpa using hz)]
    refine congrArg (fun w => IntOp.subi (IntOp.subi w 1#32) 126#32) ?_
    rw [countBelow, ← fold_count]
    refine Finset.fold_congr fun x _ => if_congr ?_ rfl rfl
    rw [← ofBits_field x.val x.isLt, ← hw x, ← hy]

/-- The power of two of an exponent word. -/
theorem pow2_at (e : IVec S1x128 32) (j : S1x128.Idx) (n : ℕ) (h1 : 1 ≤ n) (h2 : n ≤ 127) (he : e j = BitVec.ofNat 32 n - 1#32 - 126#32) :
    pow2 (F := Ideal) e j = (((2 : ℝ) ^ ((n : ℤ) - 127) : ℝ) : EReal) := by
  pointwise [pow2]
  have hw : ∀ x : Fin 256, IntOp.shli ArithUnit.vector (IntOp.addi (BitVec.ofNat 32 x.val - 1#32 - 126#32) 127#32) 23#32
      = BitVec.ofNat 32 x.val <<< 23 := by decide +kernel
  rw [he, hw ⟨n, by omega⟩, ofBits_field n (by omega), fieldValue, if_neg (by omega), if_neg (by omega)]

/-- An exponent word read as an integer. -/
theorem toInt_word (n : ℕ) (h1 : 1 ≤ n) (h2 : n ≤ 127) : (BitVec.ofNat 32 n - 1#32 - 126#32).toInt = (n : ℤ) - 127 :=
  (show ∀ n : Fin 128, 1 ≤ n.val → (BitVec.ofNat 32 n.val - 1#32 - 126#32).toInt = (n.val : ℤ) - 127 by decide +kernel)
    ⟨n, by omega⟩ h1

end Cert.Attn

end
-- ==== Proof.Reals.lean ====
/- Facts about the extended reals that the proof needs: powers of two of a difference, and the cases in
   which a factor goes into a sum. Nothing here mentions a program. -/
module

public import Idealize.ShloMosaic.PureOps.Ideal

@[expose] public section

noncomputable section

namespace Cert.Attn

open Idealize.ShloMosaic

theorem exp2_nonneg (x : EReal) : 0 ≤ Ideal.exp2 x := by
  induction x with
  | bot => simp
  | top => simp
  | coe r => rw [Ideal.exp2_coe]; exact_mod_cast (Real.rpow_pos_of_pos two_pos r).le

theorem exp2_mono : Monotone Ideal.exp2 := by
  intro x y h
  induction x with
  | bot => simpa using exp2_nonneg y
  | top => rw [top_le_iff.mp h]
  | coe r =>
    induction y with
    | bot => simp at h
    | top => simp
    | coe s =>
      rw [Ideal.exp2_coe, Ideal.exp2_coe]
      exact_mod_cast Real.rpow_le_rpow_of_exponent_le one_le_two (by exact_mod_cast h)

theorem exp2_zero : Ideal.exp2 0 = 1 := by
  rw [← EReal.coe_zero, Ideal.exp2_coe]; simp

/-- A power of two of a difference is at most one when nothing larger is subtracted from. -/
theorem exp2_sub_le_one {t m : EReal} (h : t ≤ m) : Ideal.exp2 (t - m) ≤ 1 := by
  have h' : t - m ≤ 0 := by
    induction m with
    | bot => rw [le_bot_iff.mp h]; simp
    | top => simp
    | coe r =>
      induction t with
      | bot => simp
      | top => simp at h
      | coe s => rw [← EReal.coe_sub, ← EReal.coe_zero]; exact_mod_cast sub_nonpos.mpr (by exact_mod_cast h)
  calc Ideal.exp2 (t - m) ≤ Ideal.exp2 0 := exp2_mono h'
    _ = 1 := exp2_zero

theorem exp2_sub_ne_top {t m : EReal} (h : t ≤ m) : Ideal.exp2 (t - m) ≠ ⊤ :=
  ((exp2_sub_le_one h).trans_lt (EReal.coe_lt_top 1)).ne

/-- Changing the subtracted maximum from `m` to a larger `m'` is a multiplication. -/
theorem exp2_rebase {t m m' : EReal} (h : t ≤ m) (h' : m ≤ m') :
    Ideal.exp2 (m - m') * Ideal.exp2 (t - m) = Ideal.exp2 (t - m') := by
  induction m' with
  | bot => rw [le_bot_iff.mp h'] at h ⊢; rw [le_bot_iff.mp h]; simp
  | top => simp
  | coe r' =>
    induction m with
    | bot => rw [le_bot_iff.mp h]; simp
    | top => simp at h'
    | coe r =>
      induction t with
      | bot => simp
      | top => simp at h
      | coe s =>
        rw [← EReal.coe_sub, ← EReal.coe_sub, ← EReal.coe_sub, Ideal.exp2_coe, Ideal.exp2_coe, Ideal.exp2_coe,
          ← EReal.coe_mul]
        congr 1
        show (2 : ℝ) ^ (r - r') * 2 ^ (s - r) = 2 ^ (s - r')
        rw [← Real.rpow_add two_pos]; congr 1; ring

/-- An integer added to the subtracted maximum is a power of two divided by. -/
theorem exp2_sub_add (t m : EReal) (e : ℝ) :
    Ideal.exp2 (t - (m + e)) * ((Real.rpow 2 e : ℝ) : EReal) = Ideal.exp2 (t - m) := by
  have hp : 0 < Real.rpow 2 e := Real.rpow_pos_of_pos two_pos e
  induction m with
  | bot =>
    rw [EReal.bot_add]
    induction t with
    | bot => simp
    | top => rw [EReal.top_sub_bot, Ideal.exp2_top]; exact EReal.top_mul_coe_of_pos hp
    | coe s => rw [EReal.coe_sub_bot, Ideal.exp2_top]; exact EReal.top_mul_coe_of_pos hp
  | top => rw [EReal.top_add_coe]; simp
  | coe r =>
    induction t with
    | bot => rw [EReal.bot_sub, EReal.bot_sub]; simp
    | top =>
      rw [← EReal.coe_add, EReal.top_sub_coe, EReal.top_sub_coe, Ideal.exp2_top]
      exact EReal.top_mul_coe_of_pos hp
    | coe s =>
      rw [← EReal.coe_add, ← EReal.coe_sub, ← EReal.coe_sub, Ideal.exp2_coe, Ideal.exp2_coe, ← EReal.coe_mul]
      congr 1
      show (2 : ℝ) ^ (s - (r + e)) * 2 ^ e = 2 ^ (s - r)
      rw [← Real.rpow_add two_pos]; congr 1; ring

/-- A finite factor that is not negative goes into a sum. -/
theorem mul_sum_of_nonneg {ι : Type*} {x : EReal} (h0 : 0 ≤ x) (ht : x ≠ ⊤) (s : Finset ι) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

theorem sum_mul_of_nonneg {ι : Type*} {x : EReal} (h0 : 0 ≤ x) (ht : x ≠ ⊤) (s : Finset ι) (f : ι → EReal) :
    (∑ i ∈ s, f i) * x = ∑ i ∈ s, f i * x := by
  rw [mul_comm, mul_sum_of_nonneg h0 ht]
  exact Finset.sum_congr rfl fun i _ => mul_comm _ _

/-- `1 / log 2` turns a power of `e` into a power of two. -/
theorem exp2_scaled (x : EReal) : Ideal.exp2 (x * (((Real.log 2)⁻¹ : ℝ) : EReal)) = Ideal.exp x := by
  have hl : 0 < Real.log 2 := Real.log_pos one_lt_two
  have hp : 0 < (Real.log 2)⁻¹ := inv_pos.mpr hl
  induction x with
  | bot => rw [EReal.bot_mul_coe_of_pos hp]; rfl
  | top => rw [EReal.top_mul_coe_of_pos hp]; rfl
  | coe r =>
    rw [← EReal.coe_mul, Ideal.exp2_coe]
    show ((Real.rpow 2 (r * (Real.log 2)⁻¹) : ℝ) : EReal) = (Real.exp r : EReal)
    congr 1
    show (2 : ℝ) ^ (r * (Real.log 2)⁻¹) = Real.exp r
    rw [Real.rpow_def_of_pos two_pos]; congr 1
    field_simp

theorem sub_mul_coe_of_pos (x y : EReal) {r : ℝ} (hr : 0 < r) : x * r - y * r = (x - y) * r := by
  induction x with
  | bot => rw [EReal.bot_mul_coe_of_pos hr, EReal.bot_sub, EReal.bot_sub, EReal.bot_mul_coe_of_pos hr]
  | top =>
    rw [EReal.top_mul_coe_of_pos hr]
    induction y with
    | bot => rw [EReal.bot_mul_coe_of_pos hr, EReal.top_sub_bot, EReal.top_mul_coe_of_pos hr]
    | top => rw [EReal.top_mul_coe_of_pos hr, EReal.sub_top, EReal.bot_mul_coe_of_pos hr]
    | coe s => rw [← EReal.coe_mul, EReal.top_sub_coe, EReal.top_sub_coe, EReal.top_mul_coe_of_pos hr]
  | coe q =>
    induction y with
    | bot => rw [EReal.bot_mul_coe_of_pos hr, ← EReal.coe_mul, EReal.coe_sub_bot, EReal.coe_sub_bot, EReal.top_mul_coe_of_pos hr]
    | top => rw [EReal.top_mul_coe_of_pos hr, EReal.sub_top, EReal.sub_top, EReal.bot_mul_coe_of_pos hr]
    | coe s =>
      rw [← EReal.coe_mul, ← EReal.coe_mul, ← EReal.coe_sub, ← EReal.coe_sub, ← EReal.coe_mul]
      congr 1; ring

/-- A power of `e` of a difference as the power of two of the scaled difference. -/
theorem exp2_sub_scaled (x y : EReal) :
    Ideal.exp2 (x * (((Real.log 2)⁻¹ : ℝ) : EReal) - y * (((Real.log 2)⁻¹ : ℝ) : EReal)) = Ideal.exp (x - y) := by
  rw [sub_mul_coe_of_pos x y (inv_pos.mpr (Real.log_pos one_lt_two)), exp2_scaled]

/-- A factor that is not negative goes into a maximum over a set that is not empty. -/
theorem sup_mul_of_nonneg {ι : Type*} {s : Finset ι} (hs : s.Nonempty) (f : ι → EReal) {c : EReal} (hc : 0 ≤ c) :
    s.sup f * c = s.sup fun i => f i * c :=
  Finset.comp_sup_eq_sup_comp_of_nonempty (g := fun x => x * c) (fun _ _ h => mul_le_mul_of_nonneg_right h hc) hs

theorem fold_max_eq_sup {ι : Type*} (s : Finset ι) (f : ι → EReal) : s.fold max ⊥ f = s.sup f := rfl

end Cert.Attn

end
-- ==== Proof.Softmax.lean ====
/- Softmax sums taken block by block, over the extended reals: the running maximum of the logits `t` of the
   first `n` keys, and the sum of `2 ^ (t k - maximum) * w k` over them. Nothing here mentions a program. -/
module

public import proofs.«01_k».proof.Proof.Reals

@[expose] public section

noncomputable section

namespace Cert.Attn

open Idealize.ShloMosaic

/-- The largest of the first `n` logits. -/
def top (t : ℕ → EReal) (n : ℕ) : EReal := (Finset.range n).sup t

/-- The sum over the first `n` keys of the weights `w`, each times its power of two. -/
def mass (t w : ℕ → EReal) (n : ℕ) : EReal := ∑ k ∈ Finset.range n, Ideal.exp2 (t k - top t n) * w k

theorem top_zero (t : ℕ → EReal) : top t 0 = ⊥ := rfl

theorem mass_zero (t w : ℕ → EReal) : mass t w 0 = 0 := rfl

theorem le_top (t : ℕ → EReal) {k n : ℕ} (h : k < n) : t k ≤ top t n :=
  Finset.le_sup (f := t) (Finset.mem_range.mpr h)

theorem top_mono (t : ℕ → EReal) {n n' : ℕ} (h : n ≤ n') : top t n ≤ top t n' :=
  Finset.sup_mono (Finset.range_subset_range.mpr h)

theorem sup_univ_fin (f : ℕ → EReal) (b : ℕ) :
    (Finset.univ.sup fun r : Fin b => f r.val) = (Finset.range b).sup f :=
  le_antisymm (Finset.sup_le fun r _ => Finset.le_sup (f := f) (Finset.mem_range.mpr r.isLt))
    (Finset.sup_le fun k hk =>
      Finset.le_sup (f := fun r : Fin b => f r.val) (Finset.mem_univ (⟨k, Finset.mem_range.mp hk⟩ : Fin b)))

/-- The maximum after one more block of `b` keys. -/
theorem top_add (t : ℕ → EReal) (n b : ℕ) :
    top t (n + b) = max (top t n) (Finset.univ.sup fun r : Fin b => t (n + r.val)) := by
  rw [sup_univ_fin (fun r => t (n + r)) b]
  refine le_antisymm (Finset.sup_le fun k hk => ?_) (max_le (top_mono t (Nat.le_add_right n b)) (Finset.sup_le fun r hr => ?_))
  · have hk := Finset.mem_range.mp hk
    rcases Nat.lt_or_ge k n with h | h
    · exact (le_top t h).trans (le_max_left _ _)
    · refine le_trans ?_ (le_max_right _ _)
      have := Finset.le_sup (f := fun r => t (n + r)) (Finset.mem_range.mpr (show k - n < b by omega))
      simpa [Nat.add_sub_cancel' h] using this
  · exact le_top t (by have := Finset.mem_range.mp hr; omega)

/-- The sum after one more block of `b` keys: the old sum rebased to the new maximum, plus the block's. -/
theorem mass_add (t w : ℕ → EReal) (n b : ℕ) :
    mass t w (n + b) = Ideal.exp2 (top t n - top t (n + b)) * mass t w n
      + ∑ r : Fin b, Ideal.exp2 (t (n + r.val) - top t (n + b)) * w (n + r.val) := by
  have hm : top t n ≤ top t (n + b) := top_mono t (Nat.le_add_right n b)
  unfold mass
  rw [Finset.sum_range_add, mul_sum_of_nonneg (exp2_nonneg _) (exp2_sub_ne_top hm),
    Fin.sum_univ_eq_sum_range (fun r => Ideal.exp2 (t (n + r) - top t (n + b)) * w (n + r)) b]
  congr 1
  refine Finset.sum_congr rfl fun k hk => ?_
  rw [← mul_assoc, exp2_rebase (le_top t (Finset.mem_range.mp hk)) hm]

/-- Keys whose logit is `-∞` from `n` on change no maximum. -/
theorem top_eq_of_bot (t : ℕ → EReal) {n n' : ℕ} (h : n ≤ n') (hb : ∀ k, n ≤ k → t k = ⊥) : top t n' = top t n := by
  refine le_antisymm (Finset.sup_le fun k hk => ?_) (top_mono t h)
  rcases Nat.lt_or_ge k n with hk' | hk'
  · exact le_top t hk'
  · rw [hb k hk']; exact bot_le

/-- Keys whose logit is `-∞` from `n` on change no sum. -/
theorem mass_eq_of_bot (t w : ℕ → EReal) {n n' : ℕ} (h : n ≤ n') (hb : ∀ k, n ≤ k → t k = ⊥) :
    mass t w n' = mass t w n := by
  obtain ⟨b, rfl⟩ := Nat.exists_eq_add_of_le h
  unfold mass
  rw [Finset.sum_range_add, top_eq_of_bot t h hb, Finset.sum_eq_zero (s := Finset.range b), add_zero]
  intro r _
  rw [hb (n + r) (Nat.le_add_right n r), EReal.bot_sub, Ideal.exp2_bot, zero_mul]

/-- What a block adds, taken from values `p` that a power of two `w` brings to the powers wanted. -/
theorem block_sum {b : ℕ} (p v e : Fin b → EReal) {w : ℝ} (hw : 0 < w) {s : EReal} (hs : 0 ≤ s) (hs' : s ≠ ⊤)
    (h : ∀ r, p r * (w : EReal) = e r) :
    (∑ r, v r * p r) * ((w : EReal) * s) = ∑ r, e r * (v r * s) := by
  have h0 : 0 ≤ (w : EReal) * s := mul_nonneg (by exact_mod_cast hw.le) hs
  have ht : (w : EReal) * s ≠ ⊤ := by
    induction s with
    | bot => simp at hs
    | top => exact absurd rfl hs'
    | coe r => rw [← EReal.coe_mul]; exact EReal.coe_ne_top _
  rw [sum_mul_of_nonneg h0 ht]
  refine Finset.sum_congr rfl fun r _ => ?_
  rw [← h r]; ac_rfl

theorem block_sum_one {b : ℕ} (p e : Fin b → EReal) {w : ℝ} (hw : 0 < w) (h : ∀ r, p r * (w : EReal) = e r) :
    (∑ r, p r) * (w : EReal) = ∑ r, e r := by
  rw [sum_mul_of_nonneg (by exact_mod_cast hw.le) (EReal.coe_ne_top _)]
  exact Finset.sum_congr rfl fun r _ => h r

end Cert.Attn

end
-- ==== Proof.Lane.lean ====
/- What one lane of 128 queries adds: with logits `t r = s r * c` and new running maximum `M`, the sum of
   `2 ^ (t r - M)`, and the same sum against the scaled values. The power of two the probabilities are divided by cancels,
   and the codes' range is never left. -/
module

public import proofs.«01_k».proof.Proof.Exponent
public import proofs.«01_k».proof.Proof.Softmax

@[expose] public section

noncomputable section

namespace Cert.Attn

open Cert.KernelIdeal Cert.KernelIdeal.Gen Idealize.ShloMosaic Idealize.ShloMosaic.TcCoe Idealize.SL.Sem
open Idealize.ShloMosaic.Pointwise

/-- A positive number cancels from an inequality. -/
theorem le_of_mul_coe_le {p : EReal} {a w : ℝ} (hw : 0 < w) (h : p * (w : EReal) ≤ (a : EReal) * (w : EReal)) : p ≤ (a : EReal) := by
  induction p with
  | bot => exact bot_le
  | top =>
    rw [EReal.top_mul_coe_of_pos hw, ← EReal.coe_mul] at h
    exact absurd h (not_le.2 (EReal.coe_lt_top _))
  | coe p =>
    rw [← EReal.coe_mul, ← EReal.coe_mul] at h
    exact EReal.coe_le_coe_iff.2 (le_of_mul_le_mul_right (EReal.coe_le_coe_iff.1 h) hw)

/-! ### Constants -/

theorem lit_neg_inf : Ideal.ofBits .f32 0xFF800000#32 = ⊥ := by simp [Ideal.ofBits, Ideal.ieee]

theorem lit_hi : Ideal.ofBits .f32 0x43E00000#32 = ((448 : ℝ) : EReal) := by
  simp [Ideal.ofBits, Ideal.ieee, -EReal.coe_mul]; norm_num

theorem lit_lo : Ideal.ofBits .f32 0xC3E00000#32 = ((-448 : ℝ) : EReal) := by
  simp [Ideal.ofBits, Ideal.ieee, -EReal.coe_mul]; norm_num

/-- The word that stands for `1/448`: a little above it. -/
theorem lit_ratio : Ideal.ofBits .f32 0x3B124925#32 = ((9586981 / 4294967296 : ℝ) : EReal) := by
  simp [Ideal.ofBits, Ideal.ieee, -EReal.coe_mul]; norm_num

variable (m : FVec Ideal S1x128 .f32) (s : FVec Ideal S128x128 .f32) (c : Ideal .f32) (v : Vec Ideal S128x128 .fp8e4m3)

theorem peak_at (hc : (0 : EReal) < c) (q : Fin 128) : peak s c (ix2 0 q) = Finset.univ.sup fun r : Fin 128 => (s (ix2 r q) * c : EReal) := by
  pointwise [peak]
  rw [lit_neg_inf, fold_max_eq_sup]
  exact sup_mul_of_nonneg Finset.univ_nonempty _ hc.le

theorem runMax_at (hc : (0 : EReal) < c) (q : Fin 128) :
    runMax m s c (ix2 0 q) = max (m (ix2 0 q)) (Finset.univ.sup fun r : Fin 128 => (s (ix2 r q) * c : EReal)) := by
  rw [← peak_at s c hc q]
  pointwise [runMax]

section

variable {m s c}
variable (hc : (0 : EReal) < c) (hm : ∀ q : Fin 128, (peak s c (ix2 0 q) : EReal) ≤ m (ix2 0 q))

include hc hm

/-- A probability is at most the largest one of the lane, which is a number in `[0, 1]`. -/
theorem lane_largest : ∃ a : ℝ, 0 ≤ a ∧ a ≤ 1 ∧ (∀ q : Fin 128, ratio m s c (ix2 0 q) = ((a * (9586981 / 4294967296) : ℝ) : EReal))
    ∧ ∀ q r : Fin 128, Ideal.exp2 ((s (ix2 r q) * c : EReal) - m (ix2 0 q)) ≤ (a : EReal) := by
  obtain ⟨A, hA⟩ : ∃ A : EReal, A = Finset.univ.sup fun x : Fin 128 => Ideal.exp2 ((peak s c (ix2 0 x) : EReal) - m (ix2 0 x)) := ⟨_, rfl⟩
  have h1 : A ≤ 1 := hA ▸ Finset.sup_le fun x _ => exp2_sub_le_one (hm x)
  have hle : ∀ x : Fin 128, Ideal.exp2 ((peak s c (ix2 0 x) : EReal) - m (ix2 0 x)) ≤ A := fun x =>
    hA ▸ Finset.le_sup (f := fun x : Fin 128 => Ideal.exp2 ((peak s c (ix2 0 x) : EReal) - m (ix2 0 x))) (Finset.mem_univ x)
  have h0 : 0 ≤ A := (exp2_nonneg _).trans (hle 0)
  obtain ⟨a, rfl⟩ : ∃ a : ℝ, A = (a : EReal) :=
    ⟨A.toReal, (EReal.coe_toReal (h1.trans_lt (EReal.coe_lt_top 1)).ne (EReal.bot_lt_zero.trans_le h0).ne').symm⟩
  refine ⟨a, EReal.coe_nonneg.1 h0, by exact_mod_cast h1, fun q => ?_, fun q r => ?_⟩
  · pointwise [ratio]
    rw [lit_neg_inf, lit_ratio, EReal.coe_mul, hA]
    rfl
  · refine (exp2_mono (EReal.sub_le_sub ?_ le_rfl)).trans (hle q)
    rw [peak_at s c hc q]
    exact Finset.le_sup (f := fun r : Fin 128 => (s (ix2 r q) * c : EReal)) (Finset.mem_univ r)

/-- The lane's exponent: `448` times its power of two is above every probability. -/
theorem lane_exponent (q : Fin 128) : ∃ n : ℕ, 1 ≤ n ∧ n ≤ 127 ∧ laneExp m s c (ix2 0 q) = BitVec.ofNat 32 n - 1#32 - 126#32
    ∧ ∀ r : Fin 128, Ideal.exp2 ((s (ix2 r q) * c : EReal) - m (ix2 0 q)) ≤ ((448 * (2 : ℝ) ^ ((n : ℤ) - 127) : ℝ) : EReal) := by
  obtain ⟨a, h0, h1, hr, hle⟩ := lane_largest hc hm
  obtain ⟨n, hn1, hn2, hlt, he⟩ := exponent_at (ratio m s c) (ix2 0 q) _ (hr q) (by positivity) (by nlinarith)
  refine ⟨n, hn1, hn2, he, fun r => (hle q r).trans (EReal.coe_le_coe_iff.2 ?_)⟩
  nlinarith

omit hc hm in
/-- A probability times the lane's power of two is the probability undivided. -/
theorem probs_mul (q r : Fin 128) (n : ℕ) (h1 : 1 ≤ n) (h2 : n ≤ 127) (he : laneExp m s c (ix2 0 q) = BitVec.ofNat 32 n - 1#32 - 126#32) :
    (probs m s c (ix2 r q) : EReal) * (((2 : ℝ) ^ ((n : ℤ) - 127) : ℝ) : EReal)
      = Ideal.exp2 ((s (ix2 r q) * c : EReal) - m (ix2 0 q)) := by
  have hp : (2 : ℝ) ^ ((n : ℤ) - 127) = Real.rpow 2 ((((n : ℤ) - 127 : ℤ) : ℝ)) := (Real.rpow_intCast 2 _).symm
  rw [← exp2_sub_add _ _ ((((n : ℤ) - 127 : ℤ) : ℝ)), ← hp]
  refine congrArg (· * _) ?_
  pointwise [probs]
  rw [he]
  show Ideal.exp2 (_ - (_ + (((BitVec.ofNat 32 n - 1#32 - 126#32).toInt : ℝ) : EReal))) = _
  rw [toInt_word n h1 h2]

/-- The codes' range is never left. -/
theorem codes_at (q r : Fin 128) : codes (probs m s c) (ix2 r q) = probs m s c (ix2 r q) := by
  obtain ⟨n, h1, h2, he, hle⟩ := lane_exponent hc hm q
  have hw : (0 : ℝ) < (2 : ℝ) ^ ((n : ℤ) - 127) := by positivity
  have hmul := probs_mul q r n h1 h2 he
  have h0 : (0 : EReal) ≤ probs m s c (ix2 r q) := by
    pointwise [probs]
    exact exp2_nonneg _
  have h448 : (probs m s c (ix2 r q) : EReal) ≤ ((448 : ℝ) : EReal) := by
    refine le_of_mul_coe_le hw ?_
    rw [hmul, ← EReal.coe_mul]
    exact hle r
  pointwise [codes]
  rw [lit_hi, lit_lo]
  rw [max_eq_right ((EReal.coe_le_coe_iff.2 (by norm_num : (-448 : ℝ) ≤ 0)).trans h0), min_eq_right h448]

/-- What the lane adds to the denominators. -/
theorem laneSum_at (q : Fin 128) :
    laneSum m s c (ix2 0 q) = ∑ r : Fin 128, Ideal.exp2 ((s (ix2 r q) * c : EReal) - m (ix2 0 q)) := by
  obtain ⟨n, h1, h2, he, -⟩ := lane_exponent hc hm q
  pointwise [laneSum]
  rw [pow2_at _ _ n h1 h2 he]
  exact block_sum_one _ _ (by positivity) fun r => probs_mul q r n h1 h2 he

/-- What the lane adds to the numerators. -/
theorem laneAcc_at (q d : Fin 128) {vs : Ideal .f32} (hs : (0 : EReal) ≤ vs) (hs' : vs ≠ (⊤ : EReal)) :
    ((∑ r : Fin 128, (v (ix2 d r) * codes (probs m s c) (ix2 r q) : EReal)) * laneWeight m s c vs (ix2 0 q) : EReal)
      = ∑ r : Fin 128, Ideal.exp2 ((s (ix2 r q) * c : EReal) - m (ix2 0 q)) * (v (ix2 d r) * vs : EReal) := by
  obtain ⟨n, h1, h2, he, -⟩ := lane_exponent hc hm q
  have hw : laneWeight m s c vs (ix2 0 q) = ((((2 : ℝ) ^ ((n : ℤ) - 127) : ℝ) : EReal) * vs : EReal) := by
    pointwise [laneWeight]
    rw [pow2_at _ _ n h1 h2 he]
  rw [hw]
  simp only [codes_at hc hm]
  exact block_sum _ _ _ (by positivity) hs hs' fun r => probs_mul q r n h1 h2 he

end

end Cert.Attn

end
-- ==== Proof.Lanes.lean ====
/- One step of the running state at one query, over both lanes. -/
module

public import proofs.«01_k».proof.Proof.Lane

@[expose] public section

noncomputable section

namespace Cert.Attn

open Cert.KernelIdeal Cert.KernelIdeal.Gen Idealize.ShloMosaic Idealize.ShloMosaic.TcCoe Idealize.SL.Sem
open Idealize.ShloMosaic.Pointwise

/-! ### Lanes of a row and of a block -/

theorem row0_at (x : FVec Ideal S1x256 .f32) (q : Fin 128) : row0 x (ix2 0 q) = x (ix2 0 ⟨q.val, by omega⟩) := by
  pointwise [row0]

theorem row1_at (x : FVec Ideal S1x256 .f32) (q : Fin 128) : row1 x (ix2 0 q) = x (ix2 0 ⟨128 + q.val, by omega⟩) := by
  pointwise [row1]

theorem lane0_at (x : FVec Ideal S128x256 .f32) (r q : Fin 128) : lane0 x (ix2 r q) = x (ix2 r ⟨q.val, by omega⟩) := by
  pointwise [lane0]

theorem lane1_at (x : FVec Ideal S128x256 .f32) (r q : Fin 128) : lane1 x (ix2 r q) = x (ix2 r ⟨128 + q.val, by omega⟩) := by
  pointwise [lane1]

theorem beside_left (x y : FVec Ideal S1x128 .f32) (Q : Fin 256) (h : Q.val < 128) : beside x y (ix2 0 Q) = x (ix2 0 ⟨Q.val, h⟩) := by
  pointwise [beside]
  rw [dif_pos h]

theorem beside_right (x y : FVec Ideal S1x128 .f32) (Q : Fin 256) (h : ¬ Q.val < 128) :
    beside x y (ix2 0 Q) = y (ix2 0 ⟨Q.val - 128, by omega⟩) := by
  pointwise [beside]
  rw [dif_neg h]

theorem peak_le_runMax (m : FVec Ideal S1x128 .f32) (s : FVec Ideal S128x128 .f32) (c : Ideal .f32) (q : Fin 128) :
    (peak s c (ix2 0 q) : EReal) ≤ runMax m s c (ix2 0 q) := by
  have h : runMax m s c (ix2 0 q) = max (m (ix2 0 q) : EReal) (peak s c (ix2 0 q)) := by pointwise [runMax]
  rw [h]
  exact le_max_right _ _

/-! ### The step -/

/-- The factor of query `Q`'s lane. -/
def laneFactor (c0 c1 : Ideal .f32) (Q : Fin 256) : EReal := if Q.val < 128 then c0 else c1

variable (M L : FVec Ideal S1x256 .f32) (A : Vec Ideal S128x256 .f32) (S : FVec Ideal S128x256 .f32) (c0 c1 : Ideal .f32)
  (v : Vec Ideal S128x128 .fp8e4m3) (vs : Ideal .f32) (h0 : (0 : EReal) < c0) (h1 : (0 : EReal) < c1) (Q : Fin 256)

include h0 h1

theorem stepMax_at : stepMax M S c0 c1 (ix2 0 Q)
    = max (M (ix2 0 Q)) (Finset.univ.sup fun r : Fin 128 => (S (ix2 r Q) * laneFactor c0 c1 Q : EReal)) := by
  unfold stepMax laneFactor
  by_cases h : Q.val < 128
  · rw [beside_left _ _ Q h, runMax_at _ _ _ h0, if_pos h, row0_at]
    simp only [lane0_at]
  · have hQ : (⟨128 + (Q.val - 128), by omega⟩ : Fin 256) = Q := Fin.ext (by simp only; omega)
    rw [beside_right _ _ Q h, runMax_at _ _ _ h1, if_neg h, row1_at]
    simp only [lane1_at, hQ]

theorem stepSum_at : stepSum M L S c0 c1 (ix2 0 Q)
    = (Ideal.exp2 (M (ix2 0 Q) - stepMax M S c0 c1 (ix2 0 Q)) * L (ix2 0 Q)
      + ∑ r : Fin 128, Ideal.exp2 (S (ix2 r Q) * laneFactor c0 c1 Q - stepMax M S c0 c1 (ix2 0 Q)) : EReal) := by
  have e : stepSum M L S c0 c1 (ix2 0 Q) = (Ideal.exp2 (M (ix2 0 Q) - stepMax M S c0 c1 (ix2 0 Q)) * L (ix2 0 Q)
      + beside (laneSum (runMax (row0 M) (lane0 S) c0) (lane0 S) c0) (laneSum (runMax (row1 M) (lane1 S) c1) (lane1 S) c1) (ix2 0 Q) : EReal) := by
    pointwise [stepSum]
    rfl
  rw [e]
  congr 1
  unfold stepMax laneFactor
  by_cases h : Q.val < 128
  · rw [beside_left _ _ Q h, beside_left _ _ Q h, laneSum_at h0 (peak_le_runMax _ _ _), if_pos h]
    simp only [lane0_at]
  · have hQ : (⟨128 + (Q.val - 128), by omega⟩ : Fin 256) = Q := Fin.ext (by simp only; omega)
    rw [beside_right _ _ Q h, beside_right _ _ Q h, laneSum_at h1 (peak_le_runMax _ _ _), if_neg h]
    simp only [lane1_at, hQ]

theorem stepAcc_at (d : Fin 128) (hs : (0 : EReal) ≤ vs) (hs' : vs ≠ (⊤ : EReal)) : stepAcc M A S c0 c1 v vs (ix2 d Q)
    = (Ideal.exp2 (M (ix2 0 Q) - stepMax M S c0 c1 (ix2 0 Q)) * A (ix2 d Q)
      + ∑ r : Fin 128, Ideal.exp2 (S (ix2 r Q) * laneFactor c0 c1 Q - stepMax M S c0 c1 (ix2 0 Q)) * (v (ix2 d r) * vs) : EReal) := by
  by_cases h : Q.val < 128
  · have e : stepAcc M A S c0 c1 v vs (ix2 d Q) = (Ideal.exp2 (M (ix2 0 Q) - stepMax M S c0 c1 (ix2 0 Q)) * A (ix2 d Q)
        + (∑ r : Fin 128, (v (ix2 d r) * codes (probs (runMax (row0 M) (lane0 S) c0) (lane0 S) c0) (ix2 r ⟨Q.val, h⟩) : EReal))
          * laneWeight (runMax (row0 M) (lane0 S) c0) (lane0 S) c0 vs (ix2 0 ⟨Q.val, h⟩) : EReal) := by
      rw [← beside_left (laneWeight (runMax (row0 M) (lane0 S) c0) (lane0 S) c0 vs) (laneWeight (runMax (row1 M) (lane1 S) c1) (lane1 S) c1 vs) Q h]
      pointwise [stepAcc]
      simp only [dif_pos h]
      rfl
    rw [e, laneAcc_at v h0 (peak_le_runMax _ _ _) _ _ hs hs']
    unfold stepMax laneFactor
    rw [beside_left _ _ Q h, if_pos h]
    simp only [lane0_at]
  · have hQ : (⟨128 + (Q.val - 128), by omega⟩ : Fin 256) = Q := Fin.ext (by simp only; omega)
    have e : stepAcc M A S c0 c1 v vs (ix2 d Q) = (Ideal.exp2 (M (ix2 0 Q) - stepMax M S c0 c1 (ix2 0 Q)) * A (ix2 d Q)
        + (∑ r : Fin 128, (v (ix2 d r) * codes (probs (runMax (row1 M) (lane1 S) c1) (lane1 S) c1) (ix2 r ⟨Q.val - 128, by omega⟩) : EReal))
          * laneWeight (runMax (row1 M) (lane1 S) c1) (lane1 S) c1 vs (ix2 0 ⟨Q.val - 128, by omega⟩) : EReal) := by
      rw [← beside_right (laneWeight (runMax (row0 M) (lane0 S) c0) (lane0 S) c0 vs) (laneWeight (runMax (row1 M) (lane1 S) c1) (lane1 S) c1 vs) Q h]
      pointwise [stepAcc]
      simp only [dif_neg h]
      rfl
    rw [e, laneAcc_at v h1 (peak_le_runMax _ _ _) _ _ hs hs']
    unfold stepMax laneFactor
    rw [beside_right _ _ Q h, if_neg h]
    simp only [lane1_at, hQ]

end Cert.Attn

end
-- ==== Proof.Trip.lean ====
/- A trip of the kernel's loop is one step of `Step`, on the block of keys and values it loads. -/
module

public import proofs.«01_k».proof.Proof.Step
public import proofs.«01_k».proof.Proof.Gen.KernelIdeal.Loops

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F] [Named F]

/-- The scale of block `b` in a row of scales. -/
def scaleAt (arg : Memref sig .tc .smem S1x1x256 .f32) (X : BufTy.Contents (Elt F) arg.view.ty) (o : Fin 3 → ℕ)
    (h : ∀ a, o a + S1x1x1.size a ≤ S1x1x256.size a) : Elt F .f32 :=
  View.readAt (Elt F) arg.view (Rect.unit o S1x1x1.size h : Rect S1x1x256).toLoadRect X (Shape.Idx.first (show 0 < S1x1x1.numel by decide))

/-- A block of 128 keys. -/
def keysAt (arg : Memref sig .tc .vmem S32768x128 .fp8e4m3) (X : BufTy.Contents (Elt F) arg.view.ty) (o : Fin 2 → ℕ)
    (h : ∀ a, o a + S128x128.size a ≤ S32768x128.size a) : Vec F S128x128 .fp8e4m3 :=
  View.readAt (Elt F) arg.view (Rect.unit o S128x128.size h : Rect S32768x128).toLoadRect X

/-- A block of 128 values. -/
def valsAt (arg : Memref sig .tc .vmem S128x32768 .fp8e4m3) (X : BufTy.Contents (Elt F) arg.view.ty) (o : Fin 2 → ℕ)
    (h : ∀ a, o a + S128x128.size a ≤ S128x32768.size a) : Vec F S128x128 .fp8e4m3 :=
  View.readAt (Elt F) arg.view (Rect.unit o S128x128.size h : Rect S128x32768).toLoadRect X

/-- The numerators kept between blocks. -/
def accAt (arg : Memref sig .tc .vmem S128x256 .f32) (X : BufTy.Contents (Elt F) arg.view.ty) : Vec F S128x256 .f32 :=
  View.readAt (Elt F) arg.view (Rect.unit ![0, 0] S128x256.size inb_S128x256_S128x256_0_0 : Rect S128x256).toLoadRect X

section

variable (𝒱 : Variants) (c : Dev nD) (bd : Option 𝒱.V) (i : grid0.Coords)
    (arg2 : Memref sig .tc .smem S1x1x256 .f32) (harg2 : arg2.IsWhole) (arg3 : Memref sig .tc .smem S1x1x256 .f32) (harg3 : arg3.IsWhole)
    (arg4 : Memref sig .tc .smem S1x1x256 .f32) (harg4 : arg4.IsWhole) (arg5 : Memref sig .tc .vmem S256x128 .fp8e4m3) (harg5 : arg5.IsWhole)
    (arg6 : Memref sig .tc .vmem S32768x128 .fp8e4m3) (harg6 : arg6.IsWhole) (arg7 : Memref sig .tc .vmem S128x32768 .fp8e4m3) (harg7 : arg7.IsWhole)
    (arg8 : Memref sig .tc .vmem S256x128 .bf16) (harg8 : arg8.IsWhole) (arg9 : Memref sig .tc .vmem S128x256 .f32) (harg9 : arg9.IsWhole)
    (v0 : Vec F S256x128 .fp8e4m3) (v4 v8 : Elt F .f32) (X3 : BufTy.Contents (Elt F) arg3.view.ty)
    (X4 : BufTy.Contents (Elt F) arg4.view.ty) (X6 : BufTy.Contents (Elt F) arg6.view.ty) (X7 : BufTy.Contents (Elt F) arg7.view.ty)

theorem tripR_eq (k : Fin (k0_t1_loop i).trips) (acc : FVec F S1x256 .f32 × FVec F S1x256 .f32) (f : BufTy.Contents (Elt F) arg9.view.ty) :
    tripR_k0_t1 (F := F) 𝒱 c bd i arg2 harg2 arg3 harg3 arg4 harg4 arg5 harg5 arg6 harg6 arg7 harg7 arg8 harg8 arg9 harg9 v0 v4 v8 X3 X4 X6 X7 k acc f
      = (stepMax acc.1 (scores v0 (keysAt arg6 X6 (k0_off3 i k) (facts.k0_off3_inb i k)))
            (factor v4 (scaleAt arg3 X3 (k0_off2 i k) (facts.k0_off2_inb i k)))
            (factor v8 (scaleAt arg3 X3 (k0_off2 i k) (facts.k0_off2_inb i k))),
          stepSum acc.1 acc.2 (scores v0 (keysAt arg6 X6 (k0_off3 i k) (facts.k0_off3_inb i k)))
            (factor v4 (scaleAt arg3 X3 (k0_off2 i k) (facts.k0_off2_inb i k)))
            (factor v8 (scaleAt arg3 X3 (k0_off2 i k) (facts.k0_off2_inb i k)))) := by
  unfold tripR_k0_t1 trip_k0_t1; dsimp only
  sl_unfold_words
  rfl

theorem tripL_eq (k : Fin (k0_t1_loop i).trips) (acc : FVec F S1x256 .f32 × FVec F S1x256 .f32) (f : BufTy.Contents (Elt F) arg9.view.ty) :
    tripL_k0_t1 (F := F) 𝒱 c bd i arg2 harg2 arg3 harg3 arg4 harg4 arg5 harg5 arg6 harg6 arg7 harg7 arg8 harg8 arg9 harg9 v0 v4 v8 X3 X4 X6 X7 k acc f
      = [⟨Rect.unit ![0, 0] S128x256.size inb_S128x256_S128x256_0_0,
          stepAcc acc.1 (accAt arg9 f) (scores v0 (keysAt arg6 X6 (k0_off3 i k) (facts.k0_off3_inb i k)))
            (factor v4 (scaleAt arg3 X3 (k0_off2 i k) (facts.k0_off2_inb i k)))
            (factor v8 (scaleAt arg3 X3 (k0_off2 i k) (facts.k0_off2_inb i k)))
            (valsAt arg7 X7 (k0_off4 i k) (facts.k0_off4_inb i k))
            (scaleAt arg4 X4 (k0_off2 i k) (facts.k0_off2_inb i k))⟩] := by
  unfold tripL_k0_t1 trip_k0_t1; dsimp only
  sl_unfold_words
  rfl

end

end Cert.Attn

end
-- ==== Proof.Block.lean ====
/- The block of the result that one grid point writes is `finish` of the state after all its blocks of keys: the
   `2 g` blocks before the queries, then the two blocks that hold them, with later keys masked. -/
module

public import proofs.«01_k».proof.Proof.Trip
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

variable {F : FTy → Type} [FloatOps F] [Named F]

/-! ### Block `n` of the scales, keys and values -/

def scaleOf (x : Vec F S1x1x256 .f32) (n : ℕ) : Elt F .f32 := x (ix3 0 0 (Fin.ofNat 256 n))

def keyBlock (x : Vec F S32768x128 .fp8e4m3) (n : ℕ) : Vec F S128x128 .fp8e4m3 :=
  fun j => x (ix2 (Fin.ofNat 32768 (128 * n + (j 0).val)) (j 1))

def valBlock (x : Vec F S128x32768 .fp8e4m3) (n : ℕ) : Vec F S128x128 .fp8e4m3 :=
  fun j => x (ix2 (j 0) (Fin.ofNat 32768 (128 * n + (j 1).val)))

/-- Running maxima, denominators and numerators. -/
structure State (F : FTy → Type) where
  max : FVec F S1x256 .f32
  sum : FVec F S1x256 .f32
  acc : Vec F S128x256 .f32

def start : State F where
  max := k0_pay43
  sum := k0_pay44
  acc := k0_pay42

/-- The state after one more block of keys with scores `s`. -/
def State.step (t : State F) (s : FVec F S128x256 .f32) (c0 c1 : F .f32) (v : Vec F S128x128 .fp8e4m3) (vs : Elt F .f32) : State F where
  max := stepMax t.max s c0 c1
  sum := stepSum t.max t.sum s c0 c1
  acc := stepAcc t.max t.acc s c0 c1 v vs

variable (x0 x1 x2 : Vec F S1x1x256 .f32) (x3 : Vec F S256x128 .fp8e4m3) (x4 : Vec F S32768x128 .fp8e4m3) (x5 : Vec F S128x32768 .fp8e4m3)

/-- The scores of step `g`'s queries against block `n` of keys: masked from block `2 g` on. -/
def blockScores (g n : ℕ) : FVec F S128x256 .f32 :=
  if n < 2 * g then scores x3 (keyBlock x4 n) else masked (BitVec.ofNat 32 n) (BitVec.ofNat 32 g) (scores x3 (keyBlock x4 n))

/-- The state of step `g` after `n` blocks. -/
def stateAt (g : ℕ) : ℕ → State F
  | 0 => start
  | n + 1 => (stateAt g n).step (blockScores x3 x4 g n) (factor (scaleOf x0 (2 * g)) (scaleOf x1 n)) (factor (scaleOf x0 (2 * g + 1)) (scaleOf x1 n))
      (valBlock x5 n) (scaleOf x2 n)

variable {x0 x1 x2 x3 x4 x5}

/-! ### The loads -/

theorem scaleAt_eq (arg : Memref sig .tc .smem S1x1x256 .f32) (harg : arg.IsWhole) (x : Vec F S1x1x256 .f32) (o : Fin 3 → ℕ) (h) (n : ℕ)
    (ho : o = ![0, 0, n]) : scaleAt arg (harg.unread x) o h = scaleOf x n := by
  subst ho
  have hn : n + 1 ≤ 256 := h 2
  unfold scaleAt scaleOf
  rw [View.readAt_eq_ld, harg.read_unread]
  refine congrArg x (funext fun a => Fin.ext ?_)
  fin_cases a
  · rfl
  · rfl
  · show n + 1 * 0 = n % 256
    omega

theorem keysAt_eq (arg : Memref sig .tc .vmem S32768x128 .fp8e4m3) (harg : arg.IsWhole) (x : Vec F S32768x128 .fp8e4m3) (o : Fin 2 → ℕ) (h) (n : ℕ)
    (ho : o = ![128 * n, 0]) : keysAt arg (harg.unread x) o h = keyBlock x n := by
  subst ho
  have hn : 128 * n + 128 ≤ 32768 := h 0
  unfold keysAt keyBlock
  rw [View.readAt_eq_ld, harg.read_unread]
  funext j
  have hj : (j 0).val < 128 := (j 0).isLt
  refine congrArg x (funext fun a => Fin.ext ?_)
  fin_cases a
  · show 128 * n + 1 * (j 0).val = (128 * n + (j 0).val) % 32768
    omega
  · show 0 + 1 * (j 1).val = (j 1).val
    omega

theorem valsAt_eq (arg : Memref sig .tc .vmem S128x32768 .fp8e4m3) (harg : arg.IsWhole) (x : Vec F S128x32768 .fp8e4m3) (o : Fin 2 → ℕ) (h) (n : ℕ)
    (ho : o = ![0, 128 * n]) : valsAt arg (harg.unread x) o h = valBlock x n := by
  subst ho
  have hn : 128 * n + 128 ≤ 32768 := h 1
  unfold valsAt valBlock
  rw [View.readAt_eq_ld, harg.read_unread]
  funext j
  have hj : (j 1).val < 128 := (j 1).isLt
  refine congrArg x (funext fun a => Fin.ext ?_)
  fin_cases a
  · show 0 + 1 * (j 0).val = (j 0).val
    omega
  · show 128 * n + 1 * (j 1).val = (128 * n + (j 1).val) % 32768
    omega

/-- The numerators read back are those written last. -/
theorem accAt_writes (arg : Memref sig .tc .vmem S128x256 .f32) (f : BufTy.Contents (Elt F) arg.view.ty) (w : Vec F S128x256 .f32)
    (L : List (View.Piece (Elt F) S128x256 .f32)) :
    accAt arg (arg.view.writes (Elt F) f (⟨Rect.unit ![0, 0] S128x256.size inb_S128x256_S128x256_0_0, w⟩ :: L)) = w :=
  funext fun x => View.read_writes_cons_emb arg.view f (Rect.unit ![0, 0] S128x256.size inb_S128x256_S128x256_0_0) w L x

/-! ### The loop's trip counts -/

theorem trips_t1 (i : grid0.Coords) : (k0_t1_loop i).trips = 2 * (i 1).val :=
  (show ∀ g : Fin 128, Scf.trips 0#32 (Scalar.addi 0#32 (Scalar.muli (Scalar.divsi (Scalar.subi (Scalar.muli (BitVec.ofNat 32 g.val) 2#32) 0#32) 1#32) 1#32)) 1#32
    = 2 * g.val by decide +kernel) (i 1)

theorem trips_t2 (i : grid0.Coords) : (k0_t2_loop i).trips = 0 := Nat.le_zero.mp (k0_t2_abs i).2.1

/-! ### The two masked blocks, over what they load -/

section

variable (g b : BitVec 32) (q : Vec F S256x128 .fp8e4m3) (k : Vec F S128x128 .fp8e4m3) (qs0 qs1 ks vs : Elt F .f32)
  (m l : FVec F S1x256 .f32) (v : Vec F S128x128 .fp8e4m3) (acc : Vec F S128x256 .f32)

theorem max_first : (k0_pay75 (k0_pay56 g q qs0 m b ks k) (k0_pay70 (k0_pay68 m) (k0_pay69 qs1 ks (k0_pay53 g q b k)))) = stepMax m (masked b g (scores q k)) (factor qs0 ks) (factor qs1 ks) := rfl

theorem sum_first : (k0_pay77 m l (k0_pay56 g q qs0 m b ks k) (k0_pay64 (k0_pay54 qs0 ks) (k0_pay55 g q b k) (k0_pay56 g q qs0 m b ks k) (k0_pay57 g q qs0 m b ks k) (k0_pay58 (F := F)) (k0_pay59 g q qs0 m b ks k)) (k0_pay70 (k0_pay68 m) (k0_pay69 qs1 ks (k0_pay53 g q b k))) (k0_pay72 (k0_pay66 qs1 ks) (k0_pay67 (k0_pay53 g q b k)) (k0_pay68 m) (k0_pay69 qs1 ks (k0_pay53 g q b k))) (k0_pay73 (k0_pay66 qs1 ks) (k0_pay67 (k0_pay53 g q b k)) (k0_pay68 m) (k0_pay69 qs1 ks (k0_pay53 g q b k))) 23#32) = stepSum m l (masked b g (scores q k)) (factor qs0 ks) (factor qs1 ks) := rfl

theorem acc_first : k0_pay78 m vs (k0_pay56 g q qs0 m b ks k) (k0_pay63 (k0_pay54 qs0 ks) (k0_pay55 g q b k) (k0_pay56 g q qs0 m b ks k) (k0_pay57 g q qs0 m b ks k) (k0_pay58 (F := F)) (k0_pay59 g q qs0 m b ks k)) (k0_pay65 vs (k0_pay57 g q qs0 m b ks k) (k0_pay58 (F := F)) (k0_pay59 g q qs0 m b ks k)) (k0_pay70 (k0_pay68 m) (k0_pay69 qs1 ks (k0_pay53 g q b k))) (k0_pay72 (k0_pay66 qs1 ks) (k0_pay67 (k0_pay53 g q b k)) (k0_pay68 m) (k0_pay69 qs1 ks (k0_pay53 g q b k))) (k0_pay73 (k0_pay66 qs1 ks) (k0_pay67 (k0_pay53 g q b k)) (k0_pay68 m) (k0_pay69 qs1 ks (k0_pay53 g q b k))) (23#32) v acc = stepAcc m acc (masked b g (scores q k)) (factor qs0 ks) (factor qs1 ks) v vs := rfl

theorem acc_second : k0_pay2 m vs (k0_pay82 g q qs0 m b ks k) (k0_pay88 (k0_pay80 qs0 ks) (k0_pay81 g q b k) (k0_pay82 g q qs0 m b ks k) (k0_pay83 g q qs0 m b ks k) (k0_pay84 g q qs0 m b ks k) 0#32 1#32) (k0_pay90 vs (k0_pay83 g q qs0 m b ks k) (k0_pay84 g q qs0 m b ks k) 0#32 1#32) (k0_pay93 qs1 m ks (k0_pay79 g q b k)) (k0_pay96 (k0_pay91 qs1 ks) (k0_pay92 (k0_pay79 g q b k)) (k0_pay93 qs1 m ks (k0_pay79 g q b k)) (k0_pay94 (k0_pay79 g q b k))) (k0_pay97 (k0_pay91 qs1 ks) (k0_pay93 qs1 m ks (k0_pay79 g q b k)) (k0_pay94 (k0_pay79 g q b k))) v acc = stepAcc m acc (masked b g (scores q k)) (factor qs0 ks) (factor qs1 ks) v vs := rfl

theorem finish_second : k0_pay3 m l (k0_pay82 g q qs0 m b ks k) (k0_pay89 (k0_pay80 qs0 ks) (k0_pay81 g q b k) (k0_pay82 g q qs0 m b ks k) (k0_pay83 g q qs0 m b ks k) (k0_pay84 g q qs0 m b ks k) 0#32 1#32) (k0_pay93 qs1 m ks (k0_pay79 g q b k)) (k0_pay96 (k0_pay91 qs1 ks) (k0_pay92 (k0_pay79 g q b k)) (k0_pay93 qs1 m ks (k0_pay79 g q b k)) (k0_pay94 (k0_pay79 g q b k))) (k0_pay97 (k0_pay91 qs1 ks) (k0_pay93 qs1 m ks (k0_pay79 g q b k)) (k0_pay94 (k0_pay79 g q b k))) acc = finish acc (stepSum m l (masked b g (scores q k)) (factor qs0 ks) (factor qs1 ks)) := rfl

end

section

variable (c : Dev nD) (i : grid0.Coords)
    (arg2 : Memref sig .tc .smem S1x1x256 .f32) (harg2 : arg2.IsWhole) (arg3 : Memref sig .tc .smem S1x1x256 .f32) (harg3 : arg3.IsWhole)
    (arg4 : Memref sig .tc .smem S1x1x256 .f32) (harg4 : arg4.IsWhole) (arg5 : Memref sig .tc .vmem S256x128 .fp8e4m3) (harg5 : arg5.IsWhole)
    (arg6 : Memref sig .tc .vmem S32768x128 .fp8e4m3) (harg6 : arg6.IsWhole) (arg7 : Memref sig .tc .vmem S128x32768 .fp8e4m3) (harg7 : arg7.IsWhole)
    (arg8 : Memref sig .tc .vmem S256x128 .bf16) (harg8 : arg8.IsWhole) (arg9 : Memref sig .tc .vmem S128x256 .f32) (harg9 : arg9.IsWhole)

/-- The loop's state before trip `n`, as values. -/
theorem loop_eq (n : ℕ) (hn : n ≤ 2 * (i 1).val) :
    (st_k0_t1 (F := F) Variants.none c none i arg2 harg2 arg3 harg3 arg4 harg4 arg5 harg5 arg6 harg6 arg7 harg7 arg8 harg8 arg9 harg9 (View.readAt (Elt F) arg5.view (Rect.unit ![0, 0] S256x128.size inb_S256x128_S256x128_0_0).toLoadRect (harg5.unread x3)) (scaleAt arg2 (harg2.unread x0) (k0_off1 i 0#32) (facts.k0_off1_inb i ⟨0, by decide⟩)) (scaleAt arg2 (harg2.unread x0) (k0_off1 i 1#32) (facts.k0_off1_inb i ⟨1, by decide⟩)) (harg3.unread x1) (harg4.unread x2) (harg6.unread x4) (harg7.unread x5) (arg9.view.writes (Elt F) arg9.view.junk [⟨Rect.unit ![0, 0] S128x256.size inb_S128x256_S128x256_0_0, k0_pay42⟩]) (k0_pay43, k0_pay44) n).1 = ((stateAt x0 x1 x2 x3 x4 x5 (i 1).val n).max, (stateAt x0 x1 x2 x3 x4 x5 (i 1).val n).sum)
      ∧ accAt arg9 (arg9.view.writes (Elt F) (arg9.view.writes (Elt F) arg9.view.junk [⟨Rect.unit ![0, 0] S128x256.size inb_S128x256_S128x256_0_0, k0_pay42⟩])
          (st_k0_t1 (F := F) Variants.none c none i arg2 harg2 arg3 harg3 arg4 harg4 arg5 harg5 arg6 harg6 arg7 harg7 arg8 harg8 arg9 harg9 (View.readAt (Elt F) arg5.view (Rect.unit ![0, 0] S256x128.size inb_S256x128_S256x128_0_0).toLoadRect (harg5.unread x3)) (scaleAt arg2 (harg2.unread x0) (k0_off1 i 0#32) (facts.k0_off1_inb i ⟨0, by decide⟩)) (scaleAt arg2 (harg2.unread x0) (k0_off1 i 1#32) (facts.k0_off1_inb i ⟨1, by decide⟩)) (harg3.unread x1) (harg4.unread x2) (harg6.unread x4) (harg7.unread x5) (arg9.view.writes (Elt F) arg9.view.junk [⟨Rect.unit ![0, 0] S128x256.size inb_S128x256_S128x256_0_0, k0_pay42⟩]) (k0_pay43, k0_pay44) n).2) = (stateAt x0 x1 x2 x3 x4 x5 (i 1).val n).acc := by
  have hq : (View.readAt (Elt F) arg5.view (Rect.unit ![0, 0] S256x128.size inb_S256x128_S256x128_0_0).toLoadRect (harg5.unread x3)) = x3 := by
    rw [View.readAt_eq_ld, harg5.read_unread]
    exact View.ld_unit_zero (by decide) _ x3
  have hs0 : (scaleAt arg2 (harg2.unread x0) (k0_off1 i 0#32) (facts.k0_off1_inb i ⟨0, by decide⟩)) = scaleOf x0 (2 * (i 1).val) := scaleAt_eq _ _ _ _ _ _ (k0_off1_eq i ⟨0, by decide⟩)
  have hs1 : (scaleAt arg2 (harg2.unread x0) (k0_off1 i 1#32) (facts.k0_off1_inb i ⟨1, by decide⟩)) = scaleOf x0 (2 * (i 1).val + 1) := scaleAt_eq _ _ _ _ _ _ (k0_off1_eq i ⟨1, by decide⟩)
  rw [hq, hs0, hs1]
  induction n with
  | zero => exact ⟨rfl, accAt_writes arg9 _ _ []⟩
  | succ n ih =>
    obtain ⟨h1, h2⟩ := ih (by omega)
    have hk : n < (k0_t1_loop i).trips := by rw [trips_t1]; omega
    have hsucc := st_k0_t1_succ (F := F) Variants.none c none i arg2 harg2 arg3 harg3 arg4 harg4 arg5 harg5 arg6 harg6 arg7 harg7 arg8 harg8 arg9 harg9 x3 (scaleOf x0 (2 * (i 1).val)) (scaleOf x0 (2 * (i 1).val + 1)) (harg3.unread x1) (harg4.unread x2) (harg6.unread x4) (harg7.unread x5)
      (arg9.view.writes (Elt F) arg9.view.junk [⟨Rect.unit ![0, 0] S128x256.size inb_S128x256_S128x256_0_0, k0_pay42⟩]) (k0_pay43, k0_pay44) ⟨n, hk⟩
    rw [tripR_eq, tripL_eq, scaleAt_eq arg3 harg3 x1 _ _ _ (k0_off2_eq i ⟨n, hk⟩), scaleAt_eq arg4 harg4 x2 _ _ _ (k0_off2_eq i ⟨n, hk⟩),
      keysAt_eq arg6 harg6 x4 _ _ _ (k0_off3_eq i ⟨n, hk⟩), valsAt_eq arg7 harg7 x5 _ _ _ (k0_off4_eq i ⟨n, hk⟩), h1, h2] at hsucc
    rw [hsucc]
    have hb : blockScores x3 x4 (i 1).val n = scores x3 (keyBlock x4 n) := if_pos (by omega)
    refine ⟨?_, ?_⟩
    · simp only [stateAt, State.step, hb]
    · rw [List.singleton_append, accAt_writes]
      simp only [stateAt, State.step, hb]

section

attribute [local irreducible] st_k0_t1 st_k0_t2 stepMax stepSum stepAcc masked scores factor finish

/-- What a grid point writes, over the loop's state: the two masked blocks follow it. -/
theorem out_raw :
    out0_A_6 (F := F) c i arg2 harg2 arg3 harg3 arg4 harg4 arg5 harg5 arg6 harg6 arg7 harg7 arg8 harg8 arg9 harg9 x0 x1 x2 x3 x4 x5 =
      let st1 := st_k0_t1 (F := F) Variants.none c none i arg2 harg2 arg3 harg3 arg4 harg4 arg5 harg5 arg6 harg6 arg7 harg7 arg8 harg8 arg9 harg9 (View.readAt (Elt F) arg5.view (Rect.unit ![0, 0] S256x128.size inb_S256x128_S256x128_0_0).toLoadRect (harg5.unread x3)) (scaleAt arg2 (harg2.unread x0) (k0_off1 i 0#32) (facts.k0_off1_inb i ⟨0, by decide⟩)) (scaleAt arg2 (harg2.unread x0) (k0_off1 i 1#32) (facts.k0_off1_inb i ⟨1, by decide⟩)) (harg3.unread x1) (harg4.unread x2) (harg6.unread x4) (harg7.unread x5) (arg9.view.writes (Elt F) arg9.view.junk [⟨Rect.unit ![0, 0] S128x256.size inb_S128x256_S128x256_0_0, k0_pay42⟩]) (k0_pay43, k0_pay44) (k0_t1_loop i).trips
      let st2 := st_k0_t2 (F := F) Variants.none c none i arg2 harg2 arg3 harg3 arg4 harg4 arg5 harg5 arg6 harg6 arg7 harg7 arg8 harg8 arg9 harg9 (View.readAt (Elt F) arg5.view (Rect.unit ![0, 0] S256x128.size inb_S256x128_S256x128_0_0).toLoadRect (harg5.unread x3)) (scaleAt arg2 (harg2.unread x0) (k0_off1 i 0#32) (facts.k0_off1_inb i ⟨0, by decide⟩)) (scaleAt arg2 (harg2.unread x0) (k0_off1 i 1#32) (facts.k0_off1_inb i ⟨1, by decide⟩)) (Scalar.addi 0#32 (Scalar.muli (Scalar.divsi (Scalar.subi (Scalar.muli (BitVec.ofNat 32 ↑(i 1)) 2#32) 0#32) 1#32) 1#32)) (harg3.unread x1) (harg4.unread x2) (harg6.unread x4) (harg7.unread x5) (arg9.view.writes (Elt F) arg9.view.junk (st1.2 ++ [⟨Rect.unit ![0, 0] S128x256.size inb_S128x256_S128x256_0_0, k0_pay42⟩])) (st1.1.1, st1.1.2) (k0_t2_loop i).trips
      let L := st2.2 ++ (st1.2 ++ [⟨Rect.unit ![0, 0] S128x256.size inb_S128x256_S128x256_0_0, k0_pay42⟩])
      let t1 := (State.mk st2.1.1 st2.1.2 (accAt arg9 (arg9.view.writes (Elt F) arg9.view.junk L))).step
          (masked (Scalar.addi (Scalar.muli (BitVec.ofNat 32 ↑(i 1)) 2#32) 0#32) (BitVec.ofNat 32 ↑(i 1))
            (scores (View.readAt (Elt F) arg5.view (Rect.unit ![0, 0] S256x128.size inb_S256x128_S256x128_0_0).toLoadRect (harg5.unread x3)) (keysAt arg6 (harg6.unread x4) (k0_off8 i 0#32) (facts.k0_off8_inb i ⟨0, by decide⟩))))
          (factor (scaleAt arg2 (harg2.unread x0) (k0_off1 i 0#32) (facts.k0_off1_inb i ⟨0, by decide⟩)) (scaleAt arg3 (harg3.unread x1) (k0_off1 i 0#32) (facts.k0_off1_inb i ⟨0, by decide⟩)))
          (factor (scaleAt arg2 (harg2.unread x0) (k0_off1 i 1#32) (facts.k0_off1_inb i ⟨1, by decide⟩)) (scaleAt arg3 (harg3.unread x1) (k0_off1 i 0#32) (facts.k0_off1_inb i ⟨0, by decide⟩)))
          (valsAt arg7 (harg7.unread x5) (k0_off9 i 0#32) (facts.k0_off9_inb i ⟨0, by decide⟩))
          (scaleAt arg4 (harg4.unread x2) (k0_off1 i 0#32) (facts.k0_off1_inb i ⟨0, by decide⟩))
      let t2 := (State.mk t1.max t1.sum (accAt arg9 (arg9.view.writes (Elt F) arg9.view.junk (⟨Rect.unit ![0, 0] S128x256.size inb_S128x256_S128x256_0_0, t1.acc⟩ :: L)))).step
          (masked (Scalar.addi (Scalar.muli (BitVec.ofNat 32 ↑(i 1)) 2#32) 1#32) (BitVec.ofNat 32 ↑(i 1))
            (scores (View.readAt (Elt F) arg5.view (Rect.unit ![0, 0] S256x128.size inb_S256x128_S256x128_0_0).toLoadRect (harg5.unread x3)) (keysAt arg6 (harg6.unread x4) (k0_off8 i 1#32) (facts.k0_off8_inb i ⟨1, by decide⟩))))
          (factor (scaleAt arg2 (harg2.unread x0) (k0_off1 i 0#32) (facts.k0_off1_inb i ⟨0, by decide⟩)) (scaleAt arg3 (harg3.unread x1) (k0_off1 i 1#32) (facts.k0_off1_inb i ⟨1, by decide⟩)))
          (factor (scaleAt arg2 (harg2.unread x0) (k0_off1 i 1#32) (facts.k0_off1_inb i ⟨1, by decide⟩)) (scaleAt arg3 (harg3.unread x1) (k0_off1 i 1#32) (facts.k0_off1_inb i ⟨1, by decide⟩)))
          (valsAt arg7 (harg7.unread x5) (k0_off9 i 1#32) (facts.k0_off9_inb i ⟨1, by decide⟩))
          (scaleAt arg4 (harg4.unread x2) (k0_off1 i 1#32) (facts.k0_off1_inb i ⟨1, by decide⟩))
      finish (accAt arg9 (arg9.view.writes (Elt F) arg9.view.junk (⟨Rect.unit ![0, 0] S128x256.size inb_S128x256_S128x256_0_0, t2.acc⟩ :: ⟨Rect.unit ![0, 0] S128x256.size inb_S128x256_S128x256_0_0, t1.acc⟩ :: L))) t2.sum := by
  have hz : (![0, 0] : Fin 2 → ℕ) = fun _ => 0 := by decide
  unfold out0_A_6
  rw [View.read_writes_junk_eq_canon]
  unfold kernelRun0_A
  dsimp only
  sl_unfold_words
  rw [View.canon_unit_zero hz, finish_second, acc_second, acc_first, max_first, sum_first]
  rfl

end

theorem word_eq (g : Fin 128) (r : Fin 2) :
    Scalar.addi (Scalar.muli (BitVec.ofNat 32 g.val) 2#32) (BitVec.ofNat 32 r.val) = BitVec.ofNat 32 (2 * g.val + r.val) := by
  revert g r
  decide +kernel

/-- The block a grid point writes. -/
theorem out_eq :
    out0_A_6 (F := F) c i arg2 harg2 arg3 harg3 arg4 harg4 arg5 harg5 arg6 harg6 arg7 harg7 arg8 harg8 arg9 harg9 x0 x1 x2 x3 x4 x5 =
      finish (stateAt x0 x1 x2 x3 x4 x5 (i 1).val (2 * (i 1).val + 2)).acc (stateAt x0 x1 x2 x3 x4 x5 (i 1).val (2 * (i 1).val + 2)).sum := by
  rw [out_raw]
  have h := loop_eq (F := F) c i arg2 harg2 arg3 harg3 arg4 harg4 arg5 harg5 arg6 harg6 arg7 harg7 arg8 harg8 arg9 harg9 (x0 := x0) (x1 := x1) (x2 := x2) (x3 := x3) (x4 := x4) (x5 := x5) (2 * (i 1).val) le_rfl
  rw [← trips_t1 i] at h
  revert h
  generalize st_k0_t1 (F := F) Variants.none c none i arg2 harg2 arg3 harg3 arg4 harg4 arg5 harg5 arg6 harg6 arg7 harg7 arg8 harg8 arg9 harg9 (View.readAt (Elt F) arg5.view (Rect.unit ![0, 0] S256x128.size inb_S256x128_S256x128_0_0).toLoadRect (harg5.unread x3)) (scaleAt arg2 (harg2.unread x0) (k0_off1 i 0#32) (facts.k0_off1_inb i ⟨0, by decide⟩)) (scaleAt arg2 (harg2.unread x0) (k0_off1 i 1#32) (facts.k0_off1_inb i ⟨1, by decide⟩)) (harg3.unread x1) (harg4.unread x2) (harg6.unread x4) (harg7.unread x5) (arg9.view.writes (Elt F) arg9.view.junk [⟨Rect.unit ![0, 0] S128x256.size inb_S128x256_S128x256_0_0, k0_pay42⟩]) (k0_pay43, k0_pay44) (k0_t1_loop i).trips = st1
  rintro ⟨h1, h2⟩
  rw [trips_t1] at h1 h2
  have h0 : st_k0_t2 (F := F) Variants.none c none i arg2 harg2 arg3 harg3 arg4 harg4 arg5 harg5 arg6 harg6 arg7 harg7 arg8 harg8 arg9 harg9 (View.readAt (Elt F) arg5.view (Rect.unit ![0, 0] S256x128.size inb_S256x128_S256x128_0_0).toLoadRect (harg5.unread x3)) (scaleAt arg2 (harg2.unread x0) (k0_off1 i 0#32) (facts.k0_off1_inb i ⟨0, by decide⟩)) (scaleAt arg2 (harg2.unread x0) (k0_off1 i 1#32) (facts.k0_off1_inb i ⟨1, by decide⟩)) (Scalar.addi 0#32 (Scalar.muli (Scalar.divsi (Scalar.subi (Scalar.muli (BitVec.ofNat 32 ↑(i 1)) 2#32) 0#32) 1#32) 1#32)) (harg3.unread x1) (harg4.unread x2) (harg6.unread x4) (harg7.unread x5) (arg9.view.writes (Elt F) arg9.view.junk (st1.2 ++ [⟨Rect.unit ![0, 0] S128x256.size inb_S128x256_S128x256_0_0, k0_pay42⟩])) (st1.1.1, st1.1.2) (k0_t2_loop i).trips = ((st1.1.1, st1.1.2), []) := by
    rw [trips_t2]
    rfl
  dsimp only
  rw [h0]
  dsimp only [List.nil_append]
  rw [View.writes_append, h2, accAt_writes, accAt_writes, h1]
  have hq : (View.readAt (Elt F) arg5.view (Rect.unit ![0, 0] S256x128.size inb_S256x128_S256x128_0_0).toLoadRect (harg5.unread x3)) = x3 := by
    rw [View.readAt_eq_ld, harg5.read_unread]
    exact View.ld_unit_zero (by decide) _ x3
  have hs0 (arg : Memref sig .tc .smem S1x1x256 .f32) (harg : arg.IsWhole) (x : Vec F S1x1x256 .f32) :
      scaleAt arg (harg.unread x) (k0_off1 i 0#32) (facts.k0_off1_inb i ⟨0, by decide⟩) = scaleOf x (2 * (i 1).val) :=
    scaleAt_eq _ _ _ _ _ _ (k0_off1_eq i ⟨0, by decide⟩)
  have hs1 (arg : Memref sig .tc .smem S1x1x256 .f32) (harg : arg.IsWhole) (x : Vec F S1x1x256 .f32) :
      scaleAt arg (harg.unread x) (k0_off1 i 1#32) (facts.k0_off1_inb i ⟨1, by decide⟩) = scaleOf x (2 * (i 1).val + 1) :=
    scaleAt_eq _ _ _ _ _ _ (k0_off1_eq i ⟨1, by decide⟩)
  have hk0 : keysAt arg6 (harg6.unread x4) (k0_off8 i 0#32) (facts.k0_off8_inb i ⟨0, by decide⟩) = keyBlock x4 (2 * (i 1).val) :=
    keysAt_eq _ _ _ _ _ _ ((k0_off8_eq i ⟨0, by decide⟩).trans (by show ![256 * (i 1).val + 128 * 0, 0] = _; congr 1; omega))
  have hk1 : keysAt arg6 (harg6.unread x4) (k0_off8 i 1#32) (facts.k0_off8_inb i ⟨1, by decide⟩) = keyBlock x4 (2 * (i 1).val + 1) :=
    keysAt_eq _ _ _ _ _ _ ((k0_off8_eq i ⟨1, by decide⟩).trans (by show ![256 * (i 1).val + 128 * 1, 0] = _; congr 1; omega))
  have hv0 : valsAt arg7 (harg7.unread x5) (k0_off9 i 0#32) (facts.k0_off9_inb i ⟨0, by decide⟩) = valBlock x5 (2 * (i 1).val) :=
    valsAt_eq _ _ _ _ _ _ ((k0_off9_eq i ⟨0, by decide⟩).trans (by show ![0, 256 * (i 1).val + 128 * 0] = _; congr 2; omega))
  have hv1 : valsAt arg7 (harg7.unread x5) (k0_off9 i 1#32) (facts.k0_off9_inb i ⟨1, by decide⟩) = valBlock x5 (2 * (i 1).val + 1) :=
    valsAt_eq _ _ _ _ _ _ ((k0_off9_eq i ⟨1, by decide⟩).trans (by show ![0, 256 * (i 1).val + 128 * 1] = _; congr 2; omega))
  have hw0 : Scalar.addi (Scalar.muli (BitVec.ofNat 32 (i 1).val) 2#32) 0#32 = BitVec.ofNat 32 (2 * (i 1).val) := word_eq (i 1) 0
  have hw1 : Scalar.addi (Scalar.muli (BitVec.ofNat 32 (i 1).val) 2#32) 1#32 = BitVec.ofNat 32 (2 * (i 1).val + 1) := word_eq (i 1) 1
  have hb0 : blockScores x3 x4 (i 1).val (2 * (i 1).val) = masked (BitVec.ofNat 32 (2 * (i 1).val)) (BitVec.ofNat 32 (i 1).val)
      (scores x3 (keyBlock x4 (2 * (i 1).val))) := if_neg (by omega)
  have hb1 : blockScores x3 x4 (i 1).val (2 * (i 1).val + 1) = masked (BitVec.ofNat 32 (2 * (i 1).val + 1)) (BitVec.ofNat 32 (i 1).val)
      (scores x3 (keyBlock x4 (2 * (i 1).val + 1))) := if_neg (by omega)
  simp only [hq, hs0, hs1, hk0, hk1, hv0, hv1, hw0, hw1, stateAt, hb0, hb1]

end

end Cert.Attn

end
-- ==== Proof.Running.lean ====
/- The running state of one query is the softmax sums of its keys so far: their largest logit, the sum of the powers of
   two, and that sum against the scaled values. -/
module

public import proofs.«01_k».proof.Proof.Lanes
public import proofs.«01_k».proof.Proof.Block

@[expose] public section

noncomputable section

namespace Cert.Attn

open Cert.KernelIdeal Cert.KernelIdeal.Gen Idealize.ShloMosaic Idealize.ShloMosaic.TcCoe Idealize.SL.Sem
open Idealize.ShloMosaic.Pointwise

/-! ### The factor of a score -/

/-- The word that stands for `1/√128`. -/
theorem lit_scale : Ideal.ofBits .f32 0x3DB504F3#32 = ((11863283 / 134217728 : ℝ) : EReal) := by
  simp [Ideal.ofBits, Ideal.ieee, -EReal.coe_mul]; norm_num

theorem factor_eq (qs ks : Elt Ideal .f32) :
    factor (F := Ideal) qs ks = ((qs * ks : EReal) * Ideal.ofBits .f32 0x3DB504F3#32) * (((Real.log 2)⁻¹ : ℝ) : EReal) := by
  have h : (Named.named κ "log2e" 0x3FB8AA3B#32 : Ideal .f32) = (((Real.log 2)⁻¹ : ℝ) : EReal) :=
    IdealRules.named_const.ideal_named_scalar _ _ _ _ rfl
  unfold factor
  rw [h]
  rfl

theorem factor_pos {qs ks : Elt Ideal .f32} (hq : (0 : EReal) < qs) (hk : (0 : EReal) < ks) : (0 : EReal) < factor (F := Ideal) qs ks := by
  rw [factor_eq, lit_scale]
  refine EReal.mul_pos (EReal.mul_pos (EReal.mul_pos hq hk) ?_) ?_
  · exact EReal.coe_pos.2 (by norm_num)
  · exact EReal.coe_pos.2 (inv_pos.mpr (Real.log_pos one_lt_two))

/-! ### The mask -/

theorem sle_ofNat (a b : ℕ) (ha : a < 2 ^ 31) (hb : b < 2 ^ 31) :
    IntOp.cmpi .sle (BitVec.ofNat 32 a) (BitVec.ofNat 32 b) = 1#1 ↔ a ≤ b := by
  have h : ∀ x : ℕ, x < 2 ^ 31 → (BitVec.ofNat 32 x).toInt = (x : ℤ) := by
    intro x hx
    rw [BitVec.toInt_eq_toNat_of_lt (by rw [BitVec.toNat_ofNat]; omega), BitVec.toNat_ofNat, Nat.mod_eq_of_lt (by omega)]
  show BitVec.ofBool (BitVec.sle _ _) = 1#1 ↔ _
  rw [BitVec.sle_eq_decide, h a ha, h b hb]
  by_cases hab : a ≤ b <;> simp [hab]

theorem masked_at (n g : ℕ) (hn : n < 256) (hg : g < 128) (S : FVec Ideal S128x256 .f32) (r : Fin 128) (Q : Fin 256) :
    masked (BitVec.ofNat 32 n) (BitVec.ofNat 32 g) S (ix2 r Q) = if 128 * n + r.val ≤ 256 * g + Q.val then S (ix2 r Q) else (⊥ : EReal) := by
  have hx : IntOp.addi (Scalar.muli (BitVec.ofNat 32 n) 128#32) (BitVec.ofNat 32 r.val) = BitVec.ofNat 32 (128 * n + r.val) := by
    show BitVec.ofNat 32 n * BitVec.ofNat 32 128 + _ = _
    rw [← BitVec.ofNat_mul, ← BitVec.ofNat_add, Nat.mul_comm]
  have hy : IntOp.addi (Scalar.muli (BitVec.ofNat 32 g) 256#32) (BitVec.ofNat 32 Q.val) = BitVec.ofNat 32 (256 * g + Q.val) := by
    show BitVec.ofNat 32 g * BitVec.ofNat 32 256 + _ = _
    rw [← BitVec.ofNat_mul, ← BitVec.ofNat_add, Nat.mul_comm]
  pointwise [masked]
  rw [hx, hy, lit_neg_inf]
  unfold Scalar.select
  exact if_congr (sle_ofNat _ _ (by omega) (by omega)) rfl rfl

/-! ### One query -/

variable (x0 x1 x2 : Vec Ideal S1x1x256 .f32) (x3 : Vec Ideal S256x128 .fp8e4m3) (x4 : Vec Ideal S32768x128 .fp8e4m3) (x5 : Vec Ideal S128x32768 .fp8e4m3)

/-- The score of query `Q` and key `k`. -/
def score (Q : Fin 256) (k : ℕ) : EReal := ∑ x : Fin 128, (x4 (ix2 (Fin.ofNat 32768 k) x) * x3 (ix2 Q x) : EReal)

/-- The logit in base two of query `Q` of step `g` and key `k`: `-∞` for a later key. -/
def logit (g : ℕ) (Q : Fin 256) (k : ℕ) : EReal :=
  if k ≤ 256 * g + Q.val then
    score x3 x4 Q k * factor (F := Ideal) (scaleOf (F := Ideal) x0 (2 * g + Q.val / 128)) (scaleOf (F := Ideal) x1 (k / 128))
  else ⊥

/-- Entry `d` of the value of key `k`, scaled. -/
def value (d : Fin 128) (k : ℕ) : EReal := x5 (ix2 d (Fin.ofNat 32768 k)) * scaleOf (F := Ideal) x2 (k / 128)

variable {x0 x1 x2 x3 x4 x5}

theorem blockScores_at (g n : ℕ) (hn : n < 2 * g + 2) (hg : g < 128) (h0 : ∀ i, (0 : EReal) < scaleOf (F := Ideal) x0 i)
    (h1 : ∀ i, (0 : EReal) < scaleOf (F := Ideal) x1 i) (r : Fin 128) (Q : Fin 256) :
    (blockScores x3 x4 g n (ix2 r Q) * laneFactor (factor (F := Ideal) (scaleOf x0 (2 * g)) (scaleOf x1 n))
      (factor (F := Ideal) (scaleOf x0 (2 * g + 1)) (scaleOf x1 n)) Q : EReal) = logit x0 x1 x3 x4 g Q (128 * n + r.val) := by
  have hs : scores (F := Ideal) x3 (keyBlock x4 n) (ix2 r Q) = score x3 x4 Q (128 * n + r.val) := by
    pointwise [scores, keyBlock]
    rfl
  have hf : laneFactor (factor (F := Ideal) (scaleOf x0 (2 * g)) (scaleOf x1 n)) (factor (F := Ideal) (scaleOf x0 (2 * g + 1)) (scaleOf x1 n)) Q
      = factor (F := Ideal) (scaleOf x0 (2 * g + Q.val / 128)) (scaleOf x1 ((128 * n + r.val) / 128)) := by
    have hk : (128 * n + r.val) / 128 = n := by omega
    rw [hk]
    unfold laneFactor
    by_cases h : Q.val < 128
    · rw [if_pos h, show Q.val / 128 = 0 by omega, Nat.add_zero]
    · rw [if_neg h, show Q.val / 128 = 1 by omega]
  rw [hf]
  unfold blockScores logit
  by_cases h : n < 2 * g
  · rw [if_pos h, if_pos (by omega), hs]
  · rw [if_neg h, masked_at n g (by omega) hg, hs]
    split_ifs with hm
    · rfl
    · exact EReal.bot_mul_of_pos (factor_pos (h0 _) (h1 _))

/-- The state after `n` blocks of keys. -/
theorem state_at (g : ℕ) (hg : g < 128) (h0 : ∀ i, (0 : EReal) < scaleOf (F := Ideal) x0 i) (h1 : ∀ i, (0 : EReal) < scaleOf (F := Ideal) x1 i)
    (h2 : ∀ i, (0 : EReal) ≤ scaleOf (F := Ideal) x2 i) (h2' : ∀ i, scaleOf (F := Ideal) x2 i ≠ (⊤ : EReal)) (Q : Fin 256) (n : ℕ) (hn : n ≤ 2 * g + 2) :
    (stateAt (F := Ideal) x0 x1 x2 x3 x4 x5 g n).max (ix2 0 Q) = top (logit x0 x1 x3 x4 g Q) (128 * n)
      ∧ (stateAt (F := Ideal) x0 x1 x2 x3 x4 x5 g n).sum (ix2 0 Q) = mass (logit x0 x1 x3 x4 g Q) (fun _ => 1) (128 * n)
      ∧ ∀ d : Fin 128, (stateAt (F := Ideal) x0 x1 x2 x3 x4 x5 g n).acc (ix2 d Q) = mass (logit x0 x1 x3 x4 g Q) (value x2 x5 d) (128 * n) := by
  induction n with
  | zero =>
    refine ⟨?_, ?_, fun d => ?_⟩
    · show Ideal.ofBits .f32 0xFF800000#32 = _
      rw [lit_neg_inf]
      rfl
    · show Ideal.ofBits .f32 0x00000000#32 = _
      simp [Ideal.ofBits, Ideal.ieee, mass_zero]
    · show Ideal.ofBits .f32 0x00000000#32 = _
      simp [Ideal.ofBits, Ideal.ieee, mass_zero]
  | succ n ih =>
    obtain ⟨hM, hL, hA⟩ := ih (by omega)
    have hp0 := factor_pos (h0 (2 * g)) (h1 n)
    have hp1 := factor_pos (h0 (2 * g + 1)) (h1 n)
    have hb := blockScores_at (x3 := x3) (x4 := x4) g n (by omega) hg h0 h1
    have hmax : (stateAt (F := Ideal) x0 x1 x2 x3 x4 x5 g (n + 1)).max (ix2 0 Q) = top (logit x0 x1 x3 x4 g Q) (128 * n + 128) := by
      rw [top_add, ← hM]
      refine (stepMax_at _ _ _ _ hp0 hp1 Q).trans ?_
      simp only [hb]
    rw [Nat.mul_succ]
    refine ⟨hmax, ?_, fun d => ?_⟩
    · rw [mass_add, ← hmax, ← hM, ← hL]
      refine (stepSum_at _ _ _ _ _ hp0 hp1 Q).trans ?_
      simp only [hb, mul_one]
      rfl
    · rw [mass_add, ← hmax, ← hM, ← hA]
      refine (stepAcc_at _ _ _ _ _ _ _ hp0 hp1 Q d (h2 n) (h2' n)).trans ?_
      simp only [hb]
      have hv : ∀ r : Fin 128, value x2 x5 d (128 * n + r.val) = (valBlock (F := Ideal) x5 n (ix2 d r) * scaleOf (F := Ideal) x2 n : EReal) := by
        intro r
        unfold value
        rw [show (128 * n + r.val) / 128 = n by omega]
        rfl
      simp only [hv]
      rfl

end Cert.Attn

end
-- ==== Proof.Spec.lean ====
/- Causal softmax attention of codes and scales, one entry at a time, with natural logits. Nothing here mentions a
   program. -/
module

public import proofs.«01_k».proof.Proof.Softmax
public import Idealize.ShloMosaic.Lib.Pointwise

@[expose] public section

noncomputable section

namespace Cert.Attn

open Idealize.ShloMosaic Idealize.ShloMosaic.Pointwise

/-- A token-major array's entry of token `q`, head `h`, entry `x` of the head. -/
def tokenAt (a : (⟨2, ![32768, 4096]⟩ : Shape).Idx → EReal) (h : Fin 32) (q : ℕ) (x : Fin 128) : EReal :=
  a (ix2 (Fin.ofNat 32768 q) (Fin.ofNat 4096 (128 * h.val + x.val)))

/-- A feature-major array's entry of token `k`, head `h`, entry `d` of the head. -/
def featureAt (a : (⟨2, ![4096, 32768]⟩ : Shape).Idx → EReal) (h : Fin 32) (d : Fin 128) (k : ℕ) : EReal :=
  a (ix2 (Fin.ofNat 4096 (128 * h.val + d.val)) (Fin.ofNat 32768 k))

/-- The scale of token `k`: one per 128 tokens. -/
def scaleAtToken (a : (⟨3, ![32, 1, 256]⟩ : Shape).Idx → EReal) (h : Fin 32) (k : ℕ) : EReal := a (ix3 h 0 (Fin.ofNat 256 (k / 128)))

variable (a0 a1 : (⟨2, ![32768, 4096]⟩ : Shape).Idx → EReal) (a2 : (⟨2, ![4096, 32768]⟩ : Shape).Idx → EReal)
  (a3 a4 a5 : (⟨3, ![32, 1, 256]⟩ : Shape).Idx → EReal)

/-- The scaled score of query `q` and key `k`, `-∞` for a later key. -/
def natLogit (h : Fin 32) (q k : ℕ) : EReal :=
  if k ≤ q then (∑ x : Fin 128, tokenAt a0 h q x * tokenAt a1 h k x)
      * ((scaleAtToken a3 h q * scaleAtToken a4 h k) * Ideal.ofBits .f32 0x3DB504F3#32)
  else ⊥

/-- Entry `d` of the value of key `k`. -/
def natValue (h : Fin 32) (d : Fin 128) (k : ℕ) : EReal := featureAt a2 h d k * scaleAtToken a5 h k

/-- The largest logit of query `q`. -/
def natTop (h : Fin 32) (q : ℕ) : EReal := Finset.univ.sup fun k : Fin 32768 => natLogit a0 a1 a3 a4 h q k.val

/-- Entry `d` of the result of query `q`. -/
def attention (h : Fin 32) (q : ℕ) (d : Fin 128) : EReal :=
  Ideal.div (∑ k : Fin 32768, natValue a2 a5 h d k.val * Ideal.exp (natLogit a0 a1 a3 a4 h q k.val - natTop a0 a1 a3 a4 h q))
    (∑ k : Fin 32768, Ideal.exp (natLogit a0 a1 a3 a4 h q k.val - natTop a0 a1 a3 a4 h q))

end Cert.Attn

end
-- ==== Proof.Equal.lean ====
/- One block's result is `attention` of the arrays the blocks are read from: the running sums reach every key that counts,
   and a power of two of a logit over `ln 2` is the exponential of the logit. -/
module

public import proofs.«01_k».proof.Proof.Running
public import proofs.«01_k».proof.Proof.Spec

@[expose] public section

noncomputable section

namespace Cert.Attn

open Cert.KernelIdeal Cert.KernelIdeal.Gen Idealize.ShloMosaic Idealize.ShloMosaic.Pointwise

variable {x0 x1 x2 : Vec Ideal S1x1x256 .f32} {x3 : Vec Ideal S256x128 .fp8e4m3} {x4 : Vec Ideal S32768x128 .fp8e4m3}
  {x5 : Vec Ideal S128x32768 .fp8e4m3}
  {a0 a1 : (⟨2, ![32768, 4096]⟩ : Shape).Idx → EReal} {a2 : (⟨2, ![4096, 32768]⟩ : Shape).Idx → EReal}
  {a3 a4 a5 : (⟨3, ![32, 1, 256]⟩ : Shape).Idx → EReal} {h : Fin 32} {g : ℕ}

/-- The blocks are what head `h` and query block `g` of the arrays hold. -/
structure Blocks (x0 x1 x2 : Vec Ideal S1x1x256 .f32) (x3 : Vec Ideal S256x128 .fp8e4m3) (x4 : Vec Ideal S32768x128 .fp8e4m3)
    (x5 : Vec Ideal S128x32768 .fp8e4m3) (a0 a1 : (⟨2, ![32768, 4096]⟩ : Shape).Idx → EReal)
    (a2 : (⟨2, ![4096, 32768]⟩ : Shape).Idx → EReal) (a3 a4 a5 : (⟨3, ![32, 1, 256]⟩ : Shape).Idx → EReal) (h : Fin 32) (g : ℕ) : Prop where
  qs : ∀ n : Fin 256, x0 (ix3 0 0 n) = a3 (ix3 h 0 n)
  ks : ∀ n : Fin 256, x1 (ix3 0 0 n) = a4 (ix3 h 0 n)
  vs : ∀ n : Fin 256, x2 (ix3 0 0 n) = a5 (ix3 h 0 n)
  q : ∀ (Q : Fin 256) (x : Fin 128), x3 (ix2 Q x) = tokenAt a0 h (256 * g + Q.val) x
  k : ∀ (k : Fin 32768) (x : Fin 128), x4 (ix2 k x) = tokenAt a1 h k.val x
  v : ∀ (d : Fin 128) (k : Fin 32768), x5 (ix2 d k) = featureAt a2 h d k.val

/-- A block's logit is the natural one over `ln 2`. -/
theorem logit_eq (B : Blocks x0 x1 x2 x3 x4 x5 a0 a1 a2 a3 a4 a5 h g) (Q : Fin 256) (k : Fin 32768) :
    logit x0 x1 x3 x4 g Q k.val = natLogit a0 a1 a3 a4 h (256 * g + Q.val) k.val * (((Real.log 2)⁻¹ : ℝ) : EReal) := by
  have hL : (0 : EReal) < (((Real.log 2)⁻¹ : ℝ) : EReal) := EReal.coe_pos.2 (inv_pos.2 (Real.log_pos (by norm_num)))
  have hk : Fin.ofNat 32768 k.val = k := Fin.ext (Nat.mod_eq_of_lt k.isLt)
  have hq : (256 * g + Q.val) / 128 = 2 * g + Q.val / 128 := by omega
  unfold logit natLogit
  by_cases hc : k.val ≤ 256 * g + Q.val
  · rw [if_pos hc, if_pos hc, factor_eq]
    have e : score x3 x4 Q k.val = ∑ x : Fin 128, tokenAt a0 h (256 * g + Q.val) x * tokenAt a1 h k.val x := by
      unfold score
      refine Finset.sum_congr rfl fun x _ => ?_
      rw [hk, B.k, B.q, mul_comm]
    rw [e]
    unfold scaleOf scaleAtToken
    rw [B.qs, B.ks, hq]
    exact (mul_assoc _ _ _).symm
  · rw [if_neg hc, if_neg hc, EReal.bot_mul_of_pos hL]

theorem value_eq (B : Blocks x0 x1 x2 x3 x4 x5 a0 a1 a2 a3 a4 a5 h g) (d : Fin 128) (k : Fin 32768) :
    value x2 x5 d k.val = natValue a2 a5 h d k.val := by
  have hk : Fin.ofNat 32768 k.val = k := Fin.ext (Nat.mod_eq_of_lt k.isLt)
  unfold value natValue scaleOf scaleAtToken
  rw [hk, B.v, B.vs]

theorem top_eq (B : Blocks x0 x1 x2 x3 x4 x5 a0 a1 a2 a3 a4 a5 h g) (Q : Fin 256) :
    top (logit x0 x1 x3 x4 g Q) 32768 = natTop a0 a1 a3 a4 h (256 * g + Q.val) * (((Real.log 2)⁻¹ : ℝ) : EReal) := by
  have hL : (0 : EReal) ≤ (((Real.log 2)⁻¹ : ℝ) : EReal) := EReal.coe_nonneg.2 (inv_nonneg.2 (Real.log_nonneg (by norm_num)))
  unfold top natTop
  rw [sup_mul_of_nonneg ⟨⟨0, by norm_num⟩, Finset.mem_univ _⟩ _ hL, ← sup_univ_fin]
  exact Finset.sup_congr rfl fun k _ => logit_eq B Q k

/-- A sum of `w` over all keys with a block's weights is the sum with the exponentials. -/
theorem mass_eq (B : Blocks x0 x1 x2 x3 x4 x5 a0 a1 a2 a3 a4 a5 h g) (Q : Fin 256) (w : ℕ → EReal) :
    mass (logit x0 x1 x3 x4 g Q) w 32768
      = ∑ k : Fin 32768, w k.val * Ideal.exp (natLogit a0 a1 a3 a4 h (256 * g + Q.val) k.val - natTop a0 a1 a3 a4 h (256 * g + Q.val)) := by
  unfold mass
  rw [top_eq B, ← Fin.sum_univ_eq_sum_range (fun k => Ideal.exp2 (logit x0 x1 x3 x4 g Q k
    - natTop a0 a1 a3 a4 h (256 * g + Q.val) * (((Real.log 2)⁻¹ : ℝ) : EReal)) * w k) 32768]
  refine Finset.sum_congr rfl fun k _ => ?_
  rw [logit_eq B, exp2_sub_scaled, mul_comm]

/-- The keys from block `2g+2` on are masked for every query of block `g`. -/
theorem mass_all (hg : g < 128) (Q : Fin 256) (w : ℕ → EReal) :
    mass (logit x0 x1 x3 x4 g Q) w (128 * (2 * g + 2)) = mass (logit x0 x1 x3 x4 g Q) w 32768 :=
  (mass_eq_of_bot _ _ (by omega) fun k hk => if_neg (by omega)).symm

/-- One block's result. -/
theorem block_attention (B : Blocks x0 x1 x2 x3 x4 x5 a0 a1 a2 a3 a4 a5 h g) (hg : g < 128) (h3 : ∀ i, 0 < a3 i) (h4 : ∀ i, 0 < a4 i)
    (h5 : ∀ i, 0 ≤ a5 i) (h5' : ∀ i, a5 i ≠ ⊤) (Q : Fin 256) (d : Fin 128) :
    finish (F := Ideal) (stateAt (F := Ideal) x0 x1 x2 x3 x4 x5 g (2 * g + 2)).acc (stateAt (F := Ideal) x0 x1 x2 x3 x4 x5 g (2 * g + 2)).sum
      (ix2 Q d) = attention a0 a1 a2 a3 a4 a5 h (256 * g + Q.val) d := by
  obtain ⟨-, hs, ha⟩ := state_at (x0 := x0) (x1 := x1) (x2 := x2) (x3 := x3) (x4 := x4) (x5 := x5) g hg
    (fun i => lt_of_lt_of_eq (h3 _) (B.qs _).symm) (fun i => lt_of_lt_of_eq (h4 _) (B.ks _).symm)
    (fun i => le_of_le_of_eq (h5 _) (B.vs _).symm) (fun i => ne_of_eq_of_ne (B.vs _) (h5' _)) Q (2 * g + 2) le_rfl
  have e : finish (F := Ideal) (stateAt (F := Ideal) x0 x1 x2 x3 x4 x5 g (2 * g + 2)).acc (stateAt (F := Ideal) x0 x1 x2 x3 x4 x5 g (2 * g + 2)).sum
      (ix2 Q d) = Ideal.div ((stateAt (F := Ideal) x0 x1 x2 x3 x4 x5 g (2 * g + 2)).acc (ix2 d Q))
        ((stateAt (F := Ideal) x0 x1 x2 x3 x4 x5 g (2 * g + 2)).sum (ix2 0 Q)) := by
    pointwise [finish]
  rw [e, hs, ha d, mass_all hg, mass_all hg, mass_eq B, mass_eq B]
  unfold attention
  exact congrArg₂ Ideal.div (Finset.sum_congr rfl fun k _ => by rw [value_eq B]) (Finset.sum_congr rfl fun k _ => one_mul _)

end Cert.Attn

end
-- ==== Proof.Array.lean ====
/- What the kernel leaves in its result array: at every query and every head, `attention` of the argument arrays. -/
module

public import proofs.«01_k».proof.Proof.Equal
public import proofs.«01_k».proof.Proof.Gen.KernelIdeal.Value
public import Idealize.ShloMosaic.Lib.Pipeline.ValueKit
public import Idealize.ShloMosaic.Lib.Pipeline.ReadBack
public import Idealize.ShloMosaic.Lib.Pipeline.Covers

@[expose] public section

noncomputable section

namespace Cert.Attn

open Cert.KernelIdeal Cert.KernelIdeal.Gen Cert.KernelIdeal.Value Idealize.ShloMosaic Idealize.ShloMosaic.TcCoe Idealize.SL.Sem
open Idealize.ShloMosaic.Pointwise

variable (m : (ℓ : Loc nD τ sig) → Buf (Elt Ideal) ℓ) (c : Dev nD)

theorem toNat_ofNat_lt (n b : ℕ) (h : n < b) (hb : b ≤ 2 ^ 32) : (BitVec.ofNat 32 n).toNat = n := by
  simp only [BitVec.toNat_ofNat]; omega

/-- The head of grid point `t`. -/
def headOf (t : Fin cfg0.N) : Fin 32 := grid0.coords t 0

/-- The block of queries of grid point `t`. -/
def queriesOf (t : Fin cfg0.N) : Fin 128 := grid0.coords t 1

/-! ### Where each window's block lies -/

theorem index0 (t : Fin cfg0.N) : win0_0.index t = ![(headOf t).val, 0, 0] := by
  show ![(BitVec.ofNat 32 (headOf t).val).toNat, 0, 0] = _
  rw [toNat_ofNat_lt _ 32 (headOf t).isLt (by norm_num)]

theorem index1 (t : Fin cfg0.N) : win0_1.index t = ![(headOf t).val, 0, 0] := by
  show ![(BitVec.ofNat 32 (headOf t).val).toNat, 0, 0] = _
  rw [toNat_ofNat_lt _ 32 (headOf t).isLt (by norm_num)]

theorem index2 (t : Fin cfg0.N) : win0_2.index t = ![(headOf t).val, 0, 0] := by
  show ![(BitVec.ofNat 32 (headOf t).val).toNat, 0, 0] = _
  rw [toNat_ofNat_lt _ 32 (headOf t).isLt (by norm_num)]

theorem index3 (t : Fin cfg0.N) : win0_3.index t = ![(queriesOf t).val, (headOf t).val] := by
  show ![(BitVec.ofNat 32 (queriesOf t).val).toNat, (BitVec.ofNat 32 (headOf t).val).toNat] = _
  rw [toNat_ofNat_lt _ 128 (queriesOf t).isLt (by norm_num), toNat_ofNat_lt _ 32 (headOf t).isLt (by norm_num)]

theorem index4 (t : Fin cfg0.N) : win0_4.index t = ![0, (headOf t).val] := by
  show ![0, (BitVec.ofNat 32 (headOf t).val).toNat] = _
  rw [toNat_ofNat_lt _ 32 (headOf t).isLt (by norm_num)]

theorem index5 (t : Fin cfg0.N) : win0_5.index t = ![(headOf t).val, 0] := by
  show ![(BitVec.ofNat 32 (headOf t).val).toNat, 0] = _
  rw [toNat_ofNat_lt _ 32 (headOf t).isLt (by norm_num)]

theorem index6 (t : Fin cfg0.N) : win0_6.index t = ![(queriesOf t).val, (headOf t).val] := by
  show ![(BitVec.ofNat 32 (queriesOf t).val).toNat, (BitVec.ofNat 32 (headOf t).val).toNat] = _
  rw [toNat_ofNat_lt _ 128 (queriesOf t).isLt (by norm_num), toNat_ofNat_lt _ 32 (headOf t).isLt (by norm_num)]

/-! ### What the blocks hold -/

theorem block0 (t : Fin cfg0.N) (n : Fin 256) :
    iblk m c 0 t (ix3 0 0 n) = m ((c.tc : Thread nD τ).loc main_arg3) (ix3 (headOf t) 0 n) := by
  show m ((c.tc : Thread nD τ).loc main_arg3) ((win0_0.blk t).view.emb (ix3 0 0 n)) = _
  refine congrArg (m ((c.tc : Thread nD τ).loc main_arg3)) (funext fun a => Fin.ext ?_)
  have := (headOf t).isLt
  have := (queriesOf t).isLt
  fin_cases a <;> blk_simp [index0] <;> simp [ix2, ix3] <;> omega

theorem block1 (t : Fin cfg0.N) (n : Fin 256) :
    iblk m c 1 t (ix3 0 0 n) = m ((c.tc : Thread nD τ).loc main_arg4) (ix3 (headOf t) 0 n) := by
  show m ((c.tc : Thread nD τ).loc main_arg4) ((win0_1.blk t).view.emb (ix3 0 0 n)) = _
  refine congrArg (m ((c.tc : Thread nD τ).loc main_arg4)) (funext fun a => Fin.ext ?_)
  have := (headOf t).isLt
  have := (queriesOf t).isLt
  fin_cases a <;> blk_simp [index1] <;> simp [ix2, ix3] <;> omega

theorem block2 (t : Fin cfg0.N) (n : Fin 256) :
    iblk m c 2 t (ix3 0 0 n) = m ((c.tc : Thread nD τ).loc main_arg5) (ix3 (headOf t) 0 n) := by
  show m ((c.tc : Thread nD τ).loc main_arg5) ((win0_2.blk t).view.emb (ix3 0 0 n)) = _
  refine congrArg (m ((c.tc : Thread nD τ).loc main_arg5)) (funext fun a => Fin.ext ?_)
  have := (headOf t).isLt
  have := (queriesOf t).isLt
  fin_cases a <;> blk_simp [index2] <;> simp [ix2, ix3] <;> omega

theorem block3 (t : Fin cfg0.N) (Q : Fin 256) (x : Fin 128) :
    iblk m c 3 t (ix2 Q x) = m ((c.tc : Thread nD τ).loc main_arg0) (ix2 (Fin.ofNat 32768 (256 * (queriesOf t).val + Q.val)) (Fin.ofNat 4096 (128 * (headOf t).val + x.val))) := by
  show m ((c.tc : Thread nD τ).loc main_arg0) ((win0_3.blk t).view.emb (ix2 Q x)) = _
  refine congrArg (m ((c.tc : Thread nD τ).loc main_arg0)) (funext fun a => Fin.ext ?_)
  have := (headOf t).isLt
  have := (queriesOf t).isLt
  fin_cases a <;> blk_simp [index3] <;> simp [ix2, ix3] <;> omega

theorem block4 (t : Fin cfg0.N) (k : Fin 32768) (x : Fin 128) :
    iblk m c 4 t (ix2 k x) = m ((c.tc : Thread nD τ).loc main_arg1) (ix2 (Fin.ofNat 32768 k.val) (Fin.ofNat 4096 (128 * (headOf t).val + x.val))) := by
  show m ((c.tc : Thread nD τ).loc main_arg1) ((win0_4.blk t).view.emb (ix2 k x)) = _
  refine congrArg (m ((c.tc : Thread nD τ).loc main_arg1)) (funext fun a => Fin.ext ?_)
  have := (headOf t).isLt
  have := (queriesOf t).isLt
  fin_cases a <;> blk_simp [index4] <;> simp [ix2, ix3] <;> omega

theorem block5 (t : Fin cfg0.N) (d : Fin 128) (k : Fin 32768) :
    iblk m c 5 t (ix2 d k) = m ((c.tc : Thread nD τ).loc main_arg2) (ix2 (Fin.ofNat 4096 (128 * (headOf t).val + d.val)) (Fin.ofNat 32768 k.val)) := by
  show m ((c.tc : Thread nD τ).loc main_arg2) ((win0_5.blk t).view.emb (ix2 d k)) = _
  refine congrArg (m ((c.tc : Thread nD τ).loc main_arg2)) (funext fun a => Fin.ext ?_)
  have := (headOf t).isLt
  have := (queriesOf t).isLt
  fin_cases a <;> blk_simp [index5] <;> simp [ix2, ix3] <;> omega

/-- Every block of the result is some grid point's. -/
theorem covers6 : (cfg0.win 6).Covers :=
  (cfg0.win 6).covers_of_indexMap_surj rfl (by decide) fun β =>
    ⟨fun | 0 => ⟨(β 1).val, (β 1).isLt⟩ | 1 => ⟨(β 0).val, (β 0).isLt⟩, fun a => by
      have h0 : (β 0).val < 128 := (β 0).isLt
      have h1 : (β 1).val < 32 := (β 1).isLt
      fin_cases a
      · exact toNat_ofNat_lt _ 128 h0 (by norm_num)
      · exact toNat_ofNat_lt _ 32 h1 (by norm_num)⟩

/-- The argument arrays' blocks at grid point `t`. -/
theorem blocks_at (t : Fin cfg0.N) :
    Blocks (iblk m c 0 t) (iblk m c 1 t) (iblk m c 2 t) (iblk m c 3 t) (iblk m c 4 t) (iblk m c 5 t)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (headOf t) (queriesOf t).val :=
  ⟨block0 m c t, block1 m c t, block2 m c t, block3 m c t, block4 m c t, block5 m c t⟩

/-- The result array: entry `128 h + d` of query `q` is `attention` there. -/
def resultOf (a0 a1 : (⟨2, ![32768, 4096]⟩ : Shape).Idx → EReal) (a2 : (⟨2, ![4096, 32768]⟩ : Shape).Idx → EReal)
    (a3 a4 a5 : (⟨3, ![32, 1, 256]⟩ : Shape).Idx → EReal) (j : (⟨2, ![32768, 4096]⟩ : Shape).Idx) : EReal :=
  attention a0 a1 a2 a3 a4 a5 (Fin.ofNat 32 ((j 1).val / 128)) (j 0).val (Fin.ofNat 128 (j 1).val)

theorem result_eq (h3 : ∀ i, (0 : EReal) < m ((c.tc : Thread nD τ).loc main_arg3) i) (h4 : ∀ i, (0 : EReal) < m ((c.tc : Thread nD τ).loc main_arg4) i)
    (h5 : ∀ i, (0 : EReal) ≤ m ((c.tc : Thread nD τ).loc main_arg5) i) (h5' : ∀ i, m ((c.tc : Thread nD τ).loc main_arg5) i ≠ (⊤ : EReal)) :
    (dats m 0 c).arrAt 6 cfg0.N = resultOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ covers6 fun t hf y => ?_
  blk_simp
  rw [after0_6]
  unfold outsAt0
  rw [out_eq]
  have hy : y = ix2 (⟨(y 0).val, (y 0).isLt⟩ : Fin 256) (⟨(y 1).val, (y 1).isLt⟩ : Fin 128) := funext fun a => by fin_cases a <;> rfl
  have hh := (headOf t).isLt
  have hg := (queriesOf t).isLt
  have y0 : (y 0).val < 256 := (y 0).isLt
  have y1 : (y 1).val < 128 := (y 1).isLt
  have e0 : ((win0_6.blk t).view.emb y 0).val = 256 * (queriesOf t).val + (y 0).val := by blk_simp [index6]; simp; omega
  have e1 : ((win0_6.blk t).view.emb y 1).val = 128 * (headOf t).val + (y 1).val := by blk_simp [index6]; simp; omega
  have eh : Fin.ofNat 32 ((128 * (headOf t).val + (y 1).val) / 128) = headOf t := Fin.ext (by simp; omega)
  have ed : Fin.ofNat 128 (128 * (headOf t).val + (y 1).val) = (⟨(y 1).val, (y 1).isLt⟩ : Fin 128) := Fin.ext (by simp; omega)
  refine (congrArg _ hy).trans ((block_attention (blocks_at m c t) hg h3 h4 h5 h5' _ _).trans ?_)
  unfold resultOf
  rw [e0, e1, eh, ed]

end Cert.Attn

end
-- ==== Proof.Reference.lean ====
/- The reference computes `attention` of the arrays its kernel region leaves. -/
module

public import proofs.«01_k».proof.Proof.Spec
public import proofs.«01_k».proof.Proof.Running
public import proofs.«01_k».proof.Proof.Gen.ReferenceIdeal.Read

@[expose] public section

set_option maxRecDepth 16384

noncomputable section

namespace Cert.Attn

open Cert.ReferenceIdeal Cert.ReferenceIdeal.Read Idealize.ShloMosaic Idealize.ShloMosaic.TcCoe Idealize.SL.Sem
open Idealize.ShloMosaic.Pointwise

variable (x3 x4 x5 : (⟨S32x1x256, .f32⟩ : BufTy).Contents (Elt Ideal)) (r0 r1 : (⟨S32768x4096, .f32⟩ : BufTy).Contents (Elt Ideal))
  (r2 : (⟨S4096x32768, .f32⟩ : BufTy).Contents (Elt Ideal))

/-! ### Scales per token -/

theorem ref_qscale (h : Fin 32) (q : Fin 32768) : val_main_v3 (F := Ideal) x3 (ix2 h q) = scaleAtToken x3 h q.val := by
  rw [val_main_v3_apply, val_main_v2_apply, val_main_v1_apply]
  unfold scaleAtToken
  refine congrArg x3 (funext fun a => Fin.ext ?_)
  fin_cases a <;> simp [ix2, ix3] <;> omega

theorem ref_kscale (h : Fin 32) (k : Fin 32768) : val_main_v6 (F := Ideal) x4 (ix2 h k) = scaleAtToken x4 h k.val := by
  rw [val_main_v6_apply, val_main_v5_apply, val_main_v4_apply]
  unfold scaleAtToken
  refine congrArg x4 (funext fun a => Fin.ext ?_)
  fin_cases a <;> simp [ix2, ix3] <;> omega

theorem ref_vscale (h : Fin 32) (k : Fin 32768) : val_main_v9 (F := Ideal) x5 (ix2 h k) = scaleAtToken x5 h k.val := by
  rw [val_main_v9_apply, val_main_v8_apply, val_main_v7_apply]
  unfold scaleAtToken
  refine congrArg x5 (funext fun a => Fin.ext ?_)
  fin_cases a <;> simp [ix2, ix3] <;> omega

/-! ### Codes per head -/

theorem ref_q (q : Fin 32768) (h : Fin 32) (x : Fin 128) : val_main_v10 (F := Ideal) r0 (ix3 q h x) = tokenAt r0 h q.val x := by
  rw [val_main_v10_apply]
  unfold tokenAt
  refine congrArg r0 (funext fun a => Fin.ext ?_)
  fin_cases a <;> simp [ix2, ix3] <;> omega

theorem ref_k (k : Fin 32768) (h : Fin 32) (x : Fin 128) : val_main_v11 (F := Ideal) r1 (ix3 k h x) = tokenAt r1 h k.val x := by
  rw [val_main_v11_apply]
  unfold tokenAt
  refine congrArg r1 (funext fun a => Fin.ext ?_)
  fin_cases a <;> simp [ix2, ix3] <;> omega

theorem ref_v (h : Fin 32) (d : Fin 128) (k : Fin 32768) : val_main_v12 (F := Ideal) r2 (ix3 h d k) = featureAt r2 h d k.val := by
  rw [val_main_v12_apply]
  unfold featureAt
  refine congrArg r2 (funext fun a => Fin.ext ?_)
  fin_cases a <;> simp [ix2, ix3] <;> omega

/-! ### Logits -/

theorem ref_score (h : Fin 32) (q k : Fin 32768) :
    val_main_v16 (F := Ideal) r0 r1 (ix3 h q k) = ∑ x : Fin 128, tokenAt r0 h q.val x * tokenAt r1 h k.val x := by
  rw [val_main_v16_apply]
  refine Finset.sum_congr rfl fun x _ => ?_
  rw [← ref_q r0 q h x, ← ref_k r1 k h x]
  rfl

theorem ref_factor (h : Fin 32) (q k : Fin 32768) :
    (val_main_v23 (F := Ideal) x3 x4 (ix3 h q k) : EReal)
      = (scaleAtToken x3 h q.val * scaleAtToken x4 h k.val) * Ideal.ofBits .f32 0x3DB504F3#32 := by
  rw [val_main_v23_apply, val_main_v21_apply, val_main_v22_apply, val_main_v19_apply, val_main_v17_apply, val_main_v20_apply,
    val_main_v18_apply, ← ref_qscale x3 h q, ← ref_kscale x4 h k]
  rfl

theorem ref_mask (h : Fin 32) (q k : Fin 32768) : val_main_v31 (F := Ideal) (ix3 h q k) = 1#1 ↔ k.val ≤ q.val := by
  rw [val_main_v31_apply, val_main_v30_apply, val_main_v28_apply, val_main_v26_apply, val_main_v29_apply, val_main_v27_apply,
    val_main_v25_apply, val_main_v25_apply]
  exact sle_ofNat k.val q.val (by omega) (by omega)

theorem ref_logit (h : Fin 32) (q k : Fin 32768) :
    val_main_v33 (F := Ideal) x3 x4 r0 r1 (ix3 h q k) = natLogit r0 r1 x3 x4 h q.val k.val := by
  rw [val_main_v33_apply, val_main_v24_apply, val_main_v32_apply, ref_score]
  unfold natLogit
  rw [← ref_factor]
  exact (if_congr (ref_mask h q k) rfl lit_neg_inf)

theorem ref_top (h : Fin 32) (q : Fin 32768) : val_main_v34 (F := Ideal) x3 x4 r0 r1 (ix2 h q) = natTop r0 r1 x3 x4 h q.val := by
  have e : val_main_v34 (F := Ideal) x3 x4 r0 r1 (ix2 h q)
      = Finset.fold max (Ideal.ofBits .f32 0xFF800000#32) (fun k : Fin 32768 => val_main_v33 (F := Ideal) x3 x4 r0 r1 (ix3 h q k)) Finset.univ := by
    unfold val_main_v34 val_main_cst_1
    generalize val_main_v33 (F := Ideal) x3 x4 r0 r1 = y
    pointwise []
  rw [e, lit_neg_inf]
  unfold natTop
  rw [← fold_max_eq_sup]
  exact Finset.fold_congr fun k _ => ref_logit x3 x4 r0 r1 h q k

theorem ref_weight (h : Fin 32) (q k : Fin 32768) :
    val_main_v38 (F := Ideal) x3 x4 r0 r1 (ix3 h q k) = Ideal.exp (natLogit r0 r1 x3 x4 h q.val k.val - natTop r0 r1 x3 x4 h q.val) := by
  have e : idx_main_v35 (idx_main_v36 (ix3 h q k)) = ix2 h q := funext fun a => by fin_cases a <;> rfl
  rw [val_main_v38_apply, val_main_v37_apply, val_main_v36_apply, val_main_v35_apply, ref_logit, e, ref_top]
  rfl

/-! ### The result -/

theorem ref_mass (h : Fin 32) (q : Fin 32768) :
    val_main_v39 (F := Ideal) x3 x4 r0 r1 (ix2 h q)
      = ∑ k : Fin 32768, Ideal.exp (natLogit r0 r1 x3 x4 h q.val k.val - natTop r0 r1 x3 x4 h q.val) := by
  rw [val_main_v39_apply, val_main_cst_2_apply]
  refine (congrArg₂ (· + ·) (Ideal.ofBits_zero .f32) rfl).trans ((zero_add _).trans ?_)
  refine Finset.sum_congr rfl fun k _ => ?_
  have e : idx_main_v39 (ix2 h q) k = ix3 h q k := funext fun a => by fin_cases a <;> rfl
  rw [e, ref_weight]

theorem ref_value (h : Fin 32) (d : Fin 128) (k : Fin 32768) :
    val_main_v15 (F := Ideal) x5 r2 (ix3 h d k) = natValue r2 x5 h d k.val := by
  rw [val_main_v15_apply, val_main_v14_apply, val_main_v13_apply, ref_v]
  unfold natValue
  rw [← ref_vscale]
  rfl

theorem ref_weighted (h : Fin 32) (q : Fin 32768) (d : Fin 128) :
    val_main_v40 (F := Ideal) x3 x4 x5 r0 r1 r2 (ix3 h d q)
      = ∑ k : Fin 32768, natValue r2 x5 h d k.val * Ideal.exp (natLogit r0 r1 x3 x4 h q.val k.val - natTop r0 r1 x3 x4 h q.val) := by
  rw [val_main_v40_apply]
  refine Finset.sum_congr rfl fun k _ => ?_
  have e : lidx_main_v40 (ix3 h d q) k = ix3 h d k := funext fun a => by fin_cases a <;> rfl
  have e' : ridx_main_v40 (ix3 h d q) k = ix3 h q k := funext fun a => by fin_cases a <;> rfl
  rw [e, e', ref_value, ref_weight]

/-- The reference's result at query `q`, head `h`, entry `d`. -/
theorem ref_result (q : Fin 32768) (h : Fin 32) (d : Fin 128) (j : Fin 4096) (hj : j.val = 128 * h.val + d.val) :
    val_main_v46 (F := Ideal) x3 x4 x5 r0 r1 r2 (ix2 q j) = attention r0 r1 r2 x3 x4 x5 h q.val d := by
  have e : idx_main_v44 (idx_main_v46 (ix2 q j)) = ix3 h d q := funext fun a => Fin.ext (by
    fin_cases a <;> simp [ix2, ix3] <;> omega)
  have e' : idx_main_v41 (idx_main_v42 (ix3 h d q)) = ix2 h q := funext fun a => by fin_cases a <;> rfl
  rw [val_main_v46_apply, val_main_v45_apply, val_main_v44_apply, e, val_main_v43_apply, val_main_v42_apply, val_main_v41_apply, e',
    ref_mass, ref_weighted]
  rfl

end Cert.Attn

end
-- ==== Proof.Regions.lean ====
/- The reference's kernel region leaves the codes as they are: converting a code to another format changes no value. -/
module

public import proofs.«01_k».proof.Proof.Gen.ReferenceIdeal.Run
public import Idealize.ShloMosaic.Lib.Pointwise
public import Idealize.ShloMosaic.Lib.Pipeline.ValueKit
public import Idealize.ShloMosaic.Lib.Pipeline.ReadBack

@[expose] public section

noncomputable section

namespace Cert.Attn

open Cert.ReferenceIdeal Cert.ReferenceIdeal.Gen Cert.ReferenceIdeal.Value Idealize.ShloMosaic Idealize.ShloMosaic.TcCoe Idealize.SL.Sem
open Idealize.ShloMosaic.Pointwise

variable (m : (ℓ : Loc nD τ sig) → Buf (Elt Ideal) ℓ) (c : Dev nD)

theorem region_q : reg_main_v0_0 m c = m ((c.tc : Thread nD τ).loc main_arg0) := by
  unfold reg_main_v0_0
  refine (dats m 0 c).arrAt_eq_of_covers 3 _ (by decide +kernel) fun t hf y => ?_
  blk_simp
  rw [after0_3]
  frame_out
  show m ((c.tc : Thread nD τ).loc main_arg0) _ = m ((c.tc : Thread nD τ).loc main_arg0) _
  exact congrArg (m ((c.tc : Thread nD τ).loc main_arg0)) (funext fun a => Fin.ext (by fin_cases a <;> blk_simp <;> rfl))

theorem region_k : reg_main_v0_1 m c = m ((c.tc : Thread nD τ).loc main_arg1) := by
  unfold reg_main_v0_1
  refine (dats m 0 c).arrAt_eq_of_covers 4 _ (by decide +kernel) fun t hf y => ?_
  blk_simp
  rw [after0_4]
  frame_out
  show m ((c.tc : Thread nD τ).loc main_arg1) _ = m ((c.tc : Thread nD τ).loc main_arg1) _
  exact congrArg (m ((c.tc : Thread nD τ).loc main_arg1)) (funext fun a => Fin.ext (by fin_cases a <;> blk_simp <;> rfl))

theorem region_v : reg_main_v0_2 m c = m ((c.tc : Thread nD τ).loc main_arg2) := by
  unfold reg_main_v0_2
  refine (dats m 0 c).arrAt_eq_of_covers 5 _ (by decide +kernel) fun t hf y => ?_
  blk_simp
  rw [after0_5]
  frame_out
  show m ((c.tc : Thread nD τ).loc main_arg2) _ = m ((c.tc : Thread nD τ).loc main_arg2) _
  exact congrArg (m ((c.tc : Thread nD τ).loc main_arg2)) (funext fun a => Fin.ext (by fin_cases a <;> blk_simp <;> rfl))

end Cert.Attn

end
-- ==== Proof.Scales.lean ====
/- The precondition read element by element: the scales of queries and keys are positive, those of values are real and not
   negative. -/
module

public import proofs.«01_k».proof.Pre_scales_in_range
public import Idealize.ShloMosaic.Lib.Pointwise
public import Idealize.ShloMosaic.PureOps.Ideal

@[expose] public section

noncomputable section

namespace Cert.Attn

open Cert.Pre_scales_in_range Idealize.ShloMosaic

/-- The one shape relation the precondition states. -/
theorem scalesFacts : Cert.Pre_scales_in_range.Facts := ⟨by decide⟩

/-- A comparison that came out as one is true. -/
theorem of_ofBool {b : Bool} (h : BitVec.ofBool b = 1#1) : b = true := by
  cases b
  · exact absurd h (by decide)
  · rfl

theorem lit_zero : Ideal.ofBits .f32 0x00000000#32 = 0 := by simp [Ideal.ofBits, Ideal.ieee]

theorem lit_pos_inf : Ideal.ofBits .f32 0x7F800000#32 = ⊤ := by simp [Ideal.ofBits, Ideal.ieee]

variable [Cert.Pre_scales_in_range.Facts] (a0 a1 : FVec Ideal S32768x4096 .fp8e4m3) (a2 : FVec Ideal S4096x32768 .fp8e4m3)
  (a3 a4 a5 : FVec Ideal S32x1x256 .f32)

theorem of_ogt {x y : EReal} (h : FloatOps.cmpf (F := Ideal) (φ := .f32) .ogt x y = 1#1) : y < x :=
  of_decide_eq_true (of_ofBool h)

theorem of_oge {x y : EReal} (h : FloatOps.cmpf (F := Ideal) (φ := .f32) .oge x y = 1#1) : y ≤ x :=
  of_decide_eq_true (of_ofBool h)

theorem of_olt {x y : EReal} (h : FloatOps.cmpf (F := Ideal) (φ := .f32) .olt x y = 1#1) : x < y :=
  of_decide_eq_true (of_ofBool h)

theorem qscale_pos (h : (fn (F := Ideal) a0 a1 a2 a3 a4 a5).1 = fun _ => 1#1) (i) : (0 : EReal) < a3 i :=
  lt_of_eq_of_lt lit_zero.symm (of_ogt (congrFun h i))

theorem kscale_pos (h : (fn (F := Ideal) a0 a1 a2 a3 a4 a5).2.1 = fun _ => 1#1) (i) : (0 : EReal) < a4 i :=
  lt_of_eq_of_lt lit_zero.symm (of_ogt (congrFun h i))

theorem vscale_nonneg (h : (fn (F := Ideal) a0 a1 a2 a3 a4 a5).2.2.1 = fun _ => 1#1) (i) : (0 : EReal) ≤ a5 i :=
  le_of_eq_of_le lit_zero.symm (of_oge (congrFun h i))

theorem vscale_ne_top (h : (fn (F := Ideal) a0 a1 a2 a3 a4 a5).2.2.2 = fun _ => 1#1) (i) : a5 i ≠ (⊤ : EReal) :=
  ((of_olt (congrFun h i)).trans_eq lit_pos_inf).ne

end Cert.Attn

end
-- ==== Proof.QuantBlock.lean ====
/- What one grid point of the quantise call writes, tile by tile. A block of 256 tokens by 4096 features is 64 tiles of 128 by
   128, tile `n` in rows `128 (n / 32)` and features `128 (n % 32)`; every tile is quantised by the same function of its
   numbers, so each output block is one function of its index. The definitions hold for any float values. -/
module

public import proofs.«01_k».proof.Proof.Gen.QuantiseIdeal.Frame
public import Idealize.ShloMosaic.Lib.Pipeline.ValueKit
public import Idealize.ShloMosaic.Lib.Pointwise

@[expose] public section

set_option maxRecDepth 16384

noncomputable section

namespace Cert.Quant

open Cert.QuantiseIdeal Cert.QuantiseIdeal.Gen Idealize.ShloMosaic Idealize.ShloMosaic.TcCoe Idealize.SL.Sem
open Idealize.ShloMosaic.Pointwise

variable {F : FTy → Type} [FloatOps F] [Named F]

/-! ### One tile -/

/-- The largest magnitude of a tile over `448`, in every column. -/
def ratio (v : Vec F S128x128 .bf16) : FVec F S1x128 .f32 :=
  mulf (broadcastTo S1x128 (shapeCast S1x1 (shapeCast S1x1 (multiReduction .maximumf [1] S1 (shapeCast S1x128
      (multiReduction .maximumf [0] S128 (absf (extf .f32 v bitsLt_bf16_f32)) 0xFF800000#32 reduces_S128x128_S128 (.inl rfl) rfl)
      shapeCasts_S128_S1x128) 0xFF800000#32 reduces_S1x128_S1 (.inl rfl) rfl) shapeCasts_S1_S1x1) shapeCasts_S1x1_S1x1)
    broadcasts_S1x1_S1x128) (broadcast S1x128 (Scalar.ofBits .f32 0x3B124925#32))

/-- Row `n` holds the value of the word whose exponent field is `n` and whose other bits are zero. -/
def fields : FVec F S256x128 .f32 :=
  bitcastToFloat .f32 (shli (addi (subi (iota .tc S256x128 32 [0] iota_S256x128_d0_w32) (broadcast S256x128 127#32))
    (broadcast S256x128 127#32)) (broadcast S256x128 23#32))

/-- The exponent of the least power of two above `y` (zero for `y = 0`): counts the fields that start at or below `y`. -/
def exponent (y : FVec F S1x128 .f32) : IVec S1x128 32 :=
  select (cmpf .oeq y (broadcast S1x128 (Scalar.ofBits .f32 0x00000000#32))) (broadcast S1x128 0#32)
    (subi (subi (shapeCast S1x128 (multiReductionI .add [0] S128
        (select (cmpf .olt (broadcastTo S256x128 y broadcasts_S1x128_S256x128) fields) (broadcast S256x128 0#32) (broadcast S256x128 1#32))
        0#32 reduces_S256x128_S128 rfl) shapeCasts_S128_S1x128) (broadcast S1x128 1#32)) (broadcast S1x128 126#32))

/-- The power of two of an exponent. -/
def pow2 (e : IVec S1x128 32) : FVec F S1x128 .f32 :=
  bitcastToFloat .f32 (shli (addi e (broadcast S1x128 127#32)) (broadcast S1x128 23#32))

/-- The tile's scale, in every column. -/
def tileScale (v : Vec F S128x128 .bf16) : FVec F S1x1x128 .f32 :=
  shapeCast S1x1x128 (shapeCast S128 (pow2 (exponent (ratio v))) shapeCasts_S1x128_S128) shapeCasts_S128_S1x1x128

/-- The tile's numbers over its scale, clipped to `[-448, 448]`. -/
def tileClip (v : Vec F S128x128 .bf16) : FVec F S128x128 .f32 :=
  minimumf (broadcast S128x128 (Scalar.ofBits .f32 0x43E00000#32)) (maximumf (broadcast S128x128 (Scalar.ofBits .f32 0xC3E00000#32))
    (mulf (extf .f32 v bitsLt_bf16_f32)
      (broadcastTo S128x128 (pow2 (subi (broadcast S1x128 0#32) (exponent (ratio v)))) broadcasts_S1x128_S128x128)))

/-- The tile's codes. -/
def tileCodes (v : Vec F S128x128 .bf16) : FVec F S128x128 .fp8e4m3 := truncf .fp8e4m3 (tileClip v) bitsLt_fp8e4m3_f32

/-- The tile's codes, transposed. -/
def tileTurned (v : Vec F S128x128 .bf16) : FVec F S128x128 .fp8e4m3 :=
  truncf .fp8e4m3 (transpose S128x128 [1, 0] (tileClip v) transposes_S128x128_p1_0_S128x128) bitsLt_fp8e4m3_f32

/-! ### The tiles of a block -/

/-- Where tile `n` lies in a block, -/
def tile (n : ℕ) : Rect S256x4096 :=
  Rect.unit (s := S256x4096) ![128 * (n / 32 % 2), 128 * (n % 32)] S128x128.size
    (fun a => by fin_cases a <;> simp [S128x128, S256x4096] <;> omega)

/-- in its scales, -/
def scaleTile (n : ℕ) : Rect S2x1x4096 :=
  Rect.unit (s := S2x1x4096) ![n / 32 % 2, 0, 128 * (n % 32)] S1x1x128.size
    (fun a => by fin_cases a <;> simp [S1x1x128, S2x1x4096] <;> omega)

/-- and in its transposed codes. -/
def turnedTile (n : ℕ) : Rect S4096x256 :=
  Rect.unit (s := S4096x256) ![128 * (n % 32), 128 * (n / 32 % 2)] S128x128.size
    (fun a => by fin_cases a <;> simp [S128x128, S4096x256] <;> omega)

/-- The first `n` tiles' codes, last first. -/
def codesOf (x : Vec F S256x4096 .bf16) : ℕ → List (View.Piece (Elt F) S256x4096 .fp8e4m3)
  | 0 => []
  | n + 1 => ⟨tile n, tileCodes (View.ld x (tile n))⟩ :: codesOf x n

/-- The first `n` tiles' scales, last first. -/
def scalesOf (x : Vec F S256x4096 .bf16) : ℕ → List (View.Piece (Elt F) S2x1x4096 .f32)
  | 0 => []
  | n + 1 => ⟨scaleTile n, tileScale (View.ld x (tile n))⟩ :: scalesOf x n

/-- The first `n` tiles' transposed codes, last first. -/
def turnedOf (x : Vec F S256x4096 .bf16) : ℕ → List (View.Piece (Elt F) S4096x256 .fp8e4m3)
  | 0 => []
  | n + 1 => ⟨turnedTile n, tileTurned (View.ld x (tile n))⟩ :: turnedOf x n

variable (x0 x1 x2 : Vec F S256x4096 .bf16)

theorem out3_pieces : out0_3 x0 x1 x2 = View.canon (codesOf x0 64) := rfl
theorem out4_pieces : out0_4 x0 x1 x2 = View.canon (scalesOf x0 64) := rfl
theorem out5_pieces : out0_5 x0 x1 x2 = View.canon (codesOf x1 64) := rfl
theorem out6_pieces : out0_6 x0 x1 x2 = View.canon (scalesOf x1 64) := rfl
theorem out7_pieces : out0_7 x0 x1 x2 = View.canon (codesOf x2 64) := rfl
theorem out8_pieces : out0_8 x0 x1 x2 = View.canon (scalesOf x2 64) := rfl
theorem out9_pieces : out0_9 x0 x1 x2 = View.canon (turnedOf x2 64) := rfl

/-! ### The whole block -/

/-- The code in row `r` and column `c` of tile `n`, -/
def codeAt (x : Vec F S256x4096 .bf16) (n : ℕ) (r c : Fin 128) : Elt F .fp8e4m3 := tileCodes (View.ld x (tile n)) (ix2 r c)

/-- its scale in column `c`, -/
def scaleAt (x : Vec F S256x4096 .bf16) (n : ℕ) (c : Fin 128) : Elt F .f32 := tileScale (View.ld x (tile n)) (ix3 0 0 c)

/-- and the transposed code in row `r` and column `c`. -/
def turnedAt (x : Vec F S256x4096 .bf16) (n : ℕ) (r c : Fin 128) : Elt F .fp8e4m3 := tileTurned (View.ld x (tile n)) (ix2 r c)

theorem mem_codesOf (x : Vec F S256x4096 .bf16) (n : ℕ) (p) : p ∈ codesOf x n ↔ ∃ k, k < n ∧ p = ⟨tile k, tileCodes (View.ld x (tile k))⟩ := by
  induction n with
  | zero => simp [codesOf]
  | succ n ih =>
    rw [codesOf, List.mem_cons, ih]
    constructor
    · rintro (h | ⟨k, hk, h⟩)
      · exact ⟨n, by omega, h⟩
      · exact ⟨k, by omega, h⟩
    · rintro ⟨k, hk, h⟩
      by_cases e : k = n
      · subst e; exact .inl h
      · exact .inr ⟨k, by omega, h⟩

theorem mem_scalesOf (x : Vec F S256x4096 .bf16) (n : ℕ) (p) : p ∈ scalesOf x n ↔ ∃ k, k < n ∧ p = ⟨scaleTile k, tileScale (View.ld x (tile k))⟩ := by
  induction n with
  | zero => simp [scalesOf]
  | succ n ih =>
    rw [scalesOf, List.mem_cons, ih]
    constructor
    · rintro (h | ⟨k, hk, h⟩)
      · exact ⟨n, by omega, h⟩
      · exact ⟨k, by omega, h⟩
    · rintro ⟨k, hk, h⟩
      by_cases e : k = n
      · subst e; exact .inl h
      · exact .inr ⟨k, by omega, h⟩

theorem mem_turnedOf (x : Vec F S256x4096 .bf16) (n : ℕ) (p) : p ∈ turnedOf x n ↔ ∃ k, k < n ∧ p = ⟨turnedTile k, tileTurned (View.ld x (tile k))⟩ := by
  induction n with
  | zero => simp [turnedOf]
  | succ n ih =>
    rw [turnedOf, List.mem_cons, ih]
    constructor
    · rintro (h | ⟨k, hk, h⟩)
      · exact ⟨n, by omega, h⟩
      · exact ⟨k, by omega, h⟩
    · rintro ⟨k, hk, h⟩
      by_cases e : k = n
      · subst e; exact .inl h
      · exact .inr ⟨k, by omega, h⟩

/-- Which tile an index lies in, by its row and feature. -/
def tileOf (r f : ℕ) : ℕ := 32 * (r / 128) + f / 128

theorem canon_codes (x : Vec F S256x4096 .bf16) (y : S256x4096.Idx) :
    View.canon (codesOf x 64) y = codeAt x (tileOf (y 0).val (y 1).val) (Fin.ofNat 128 (y 0).val) (Fin.ofNat 128 (y 1).val) := by
  refine View.canon_apply_of_pieces (Val := Elt F) (fun y : S256x4096.Idx => codeAt x (tileOf (y 0).val (y 1).val) (Fin.ofNat 128 (y 0).val) (Fin.ofNat 128 (y 1).val)) _ ?_ y ?_
  · intro p hp z
    obtain ⟨k, hk, rfl⟩ := (mem_codesOf x 64 p).1 hp
    have z0 : (z 0).val < 128 := (z 0).isLt
    have z1 : (z 1).val < 128 := (z 1).isLt
    have e0 : ((tile k).emb z 0).val = 128 * (k / 32 % 2) + 1 * (z 0).val := rfl
    have e1 : ((tile k).emb z 1).val = 128 * (k % 32) + 1 * (z 1).val := rfl
    simp only [e0, e1]
    have ek : tileOf (128 * (k / 32 % 2) + 1 * (z 0).val) (128 * (k % 32) + 1 * (z 1).val) = k := by unfold tileOf; omega
    rw [ek, codeAt]
    refine congrArg _ (funext fun a => Fin.ext ?_)
    fin_cases a <;> simp [ix2, Fin.ofNat] <;> omega
  · have y0 : (y 0).val < 256 := (y 0).isLt
    have y1 : (y 1).val < 4096 := (y 1).isLt
    have hk : tileOf (y 0).val (y 1).val < 64 := by unfold tileOf; omega
    refine ⟨_, (mem_codesOf x 64 _).2 ⟨tileOf (y 0).val (y 1).val, hk, rfl⟩, ?_⟩
    have e : (tile (tileOf (y 0).val (y 1).val)).idx (ix2 (Fin.ofNat 128 (y 0).val) (Fin.ofNat 128 (y 1).val)) = y := by
      refine funext fun a => Fin.ext ?_
      fin_cases a
      · show 128 * (tileOf (y 0).val (y 1).val / 32 % 2) + 1 * ((y 0).val % 128) = (y 0).val
        unfold tileOf; omega
      · show 128 * (tileOf (y 0).val (y 1).val % 32) + 1 * ((y 1).val % 128) = (y 1).val
        unfold tileOf; omega
    have h := (tile (tileOf (y 0).val (y 1).val)).idx_mem (ix2 (Fin.ofNat 128 (y 0).val) (Fin.ofNat 128 (y 1).val))
    rwa [e] at h

theorem canon_scales (x : Vec F S256x4096 .bf16) (y : S2x1x4096.Idx) :
    View.canon (scalesOf x 64) y = scaleAt x (tileOf (128 * (y 0).val) (y 2).val) (Fin.ofNat 128 (y 2).val) := by
  refine View.canon_apply_of_pieces (Val := Elt F) (fun y : S2x1x4096.Idx => scaleAt x (tileOf (128 * (y 0).val) (y 2).val) (Fin.ofNat 128 (y 2).val)) _ ?_ y ?_
  · intro p hp z
    obtain ⟨k, hk, rfl⟩ := (mem_scalesOf x 64 p).1 hp
    have z0 : (z 0).val < 1 := (z 0).isLt
    have z1 : (z 1).val < 1 := (z 1).isLt
    have z2 : (z 2).val < 128 := (z 2).isLt
    have e0 : ((scaleTile k).emb z 0).val = k / 32 % 2 + 1 * (z 0).val := rfl
    have e2 : ((scaleTile k).emb z 2).val = 128 * (k % 32) + 1 * (z 2).val := rfl
    simp only [e0, e2]
    have ek : tileOf (128 * (k / 32 % 2 + 1 * (z 0).val)) (128 * (k % 32) + 1 * (z 2).val) = k := by unfold tileOf; omega
    rw [ek, scaleAt]
    refine congrArg _ (funext fun a => Fin.ext ?_)
    fin_cases a <;> simp [ix3, Fin.ofNat] <;> omega
  · have y0 : (y 0).val < 2 := (y 0).isLt
    have y1 : (y 1).val < 1 := (y 1).isLt
    have y2 : (y 2).val < 4096 := (y 2).isLt
    have hk : tileOf (128 * (y 0).val) (y 2).val < 64 := by unfold tileOf; omega
    refine ⟨_, (mem_scalesOf x 64 _).2 ⟨tileOf (128 * (y 0).val) (y 2).val, hk, rfl⟩, ?_⟩
    have e : (scaleTile (tileOf (128 * (y 0).val) (y 2).val)).idx (ix3 0 0 (Fin.ofNat 128 (y 2).val)) = y := by
      refine funext fun a => Fin.ext ?_
      fin_cases a
      · show tileOf (128 * (y 0).val) (y 2).val / 32 % 2 + 1 * 0 = (y 0).val
        unfold tileOf; omega
      · show 0 + 1 * 0 = (y 1).val
        omega
      · show 128 * (tileOf (128 * (y 0).val) (y 2).val % 32) + 1 * ((y 2).val % 128) = (y 2).val
        unfold tileOf; omega
    have h := (scaleTile (tileOf (128 * (y 0).val) (y 2).val)).idx_mem (ix3 0 0 (Fin.ofNat 128 (y 2).val))
    rwa [e] at h

theorem canon_turned (x : Vec F S256x4096 .bf16) (y : S4096x256.Idx) :
    View.canon (turnedOf x 64) y = turnedAt x (tileOf (y 1).val (y 0).val) (Fin.ofNat 128 (y 0).val) (Fin.ofNat 128 (y 1).val) := by
  refine View.canon_apply_of_pieces (Val := Elt F) (fun y : S4096x256.Idx => turnedAt x (tileOf (y 1).val (y 0).val) (Fin.ofNat 128 (y 0).val) (Fin.ofNat 128 (y 1).val)) _ ?_ y ?_
  · intro p hp z
    obtain ⟨k, hk, rfl⟩ := (mem_turnedOf x 64 p).1 hp
    have z0 : (z 0).val < 128 := (z 0).isLt
    have z1 : (z 1).val < 128 := (z 1).isLt
    have e0 : ((turnedTile k).emb z 0).val = 128 * (k % 32) + 1 * (z 0).val := rfl
    have e1 : ((turnedTile k).emb z 1).val = 128 * (k / 32 % 2) + 1 * (z 1).val := rfl
    simp only [e0, e1]
    have ek : tileOf (128 * (k / 32 % 2) + 1 * (z 1).val) (128 * (k % 32) + 1 * (z 0).val) = k := by unfold tileOf; omega
    rw [ek, turnedAt]
    refine congrArg _ (funext fun a => Fin.ext ?_)
    fin_cases a <;> simp [ix2, Fin.ofNat] <;> omega
  · have y0 : (y 0).val < 4096 := (y 0).isLt
    have y1 : (y 1).val < 256 := (y 1).isLt
    have hk : tileOf (y 1).val (y 0).val < 64 := by unfold tileOf; omega
    refine ⟨_, (mem_turnedOf x 64 _).2 ⟨tileOf (y 1).val (y 0).val, hk, rfl⟩, ?_⟩
    have e : (turnedTile (tileOf (y 1).val (y 0).val)).idx (ix2 (Fin.ofNat 128 (y 0).val) (Fin.ofNat 128 (y 1).val)) = y := by
      refine funext fun a => Fin.ext ?_
      fin_cases a
      · show 128 * (tileOf (y 1).val (y 0).val % 32) + 1 * ((y 0).val % 128) = (y 0).val
        unfold tileOf; omega
      · show 128 * (tileOf (y 1).val (y 0).val / 32 % 2) + 1 * ((y 1).val % 128) = (y 1).val
        unfold tileOf; omega
    have h := (turnedTile (tileOf (y 1).val (y 0).val)).idx_mem (ix2 (Fin.ofNat 128 (y 0).val) (Fin.ofNat 128 (y 1).val))
    rwa [e] at h

end Cert.Quant

end
-- ==== Proof.QuantExponent.lean ====
/- The scale of a tile: the least power of two above its largest magnitude over `448`, as the kernel finds it by counting
   and as the reference finds it by a logarithm. -/
module

public import proofs.«01_k».proof.Proof.QuantBlock
public import proofs.«01_k».proof.Proof.Lane

@[expose] public section

noncomputable section

namespace Cert.Quant

open Cert.QuantiseIdeal Cert.QuantiseIdeal.Gen Idealize.ShloMosaic Idealize.ShloMosaic.TcCoe Idealize.SL.Sem
open Idealize.ShloMosaic.Pointwise
open Cert.Attn (fieldValue ofBits_field countBelow fieldValue_mono fold_count lit_ratio)

/-- The range in which the scale and its inverse are words of the format: zero, or from `2 ^ -127` to `2 ^ 126`. -/
def InRange (y : EReal) : Prop := y = 0 ∨ (((2 : ℝ) ^ (-127 : ℤ) : ℝ) : EReal) ≤ y ∧ y < (((2 : ℝ) ^ (126 : ℤ) : ℝ) : EReal)

/-- The exponent of a block whose largest magnitude is `M`: one more than the floor of the logarithm of `M / 448`. -/
def blockExp (M : EReal) : EReal :=
  if M = 0 then 0
  else Ideal.liftRound Int.floor (Ideal.div (Ideal.log (M * Ideal.ofBits .f32 0x3B124925#32)) (Ideal.log (Ideal.ofBits .f32 0x40000000#32)))
    + Ideal.ofBits .f32 0x3F800000#32

theorem lit_two : Ideal.ofBits .f32 0x40000000#32 = ((2 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

/-- The count of a number in range: the field it names is the first above the number. -/
theorem countBelow_between (r : ℝ) (h0 : (2 : ℝ) ^ (-127 : ℤ) ≤ r) (h1 : r < (2 : ℝ) ^ (126 : ℤ)) :
    1 ≤ countBelow r ∧ countBelow r ≤ 253 ∧ (2 : ℝ) ^ ((countBelow r : ℤ) - 128) ≤ r ∧ r < (2 : ℝ) ^ ((countBelow r : ℤ) - 127) := by
  have hpos : (0 : ℝ) < r := lt_of_lt_of_le (by positivity) h0
  have h253 : (r : EReal) < fieldValue 253 := by
    rw [fieldValue, if_neg (by norm_num), if_neg (by norm_num)]
    exact EReal.coe_lt_coe_iff.2 (by simpa using h1)
  have hex : ∃ n : ℕ, (r : EReal) < fieldValue n := ⟨253, h253⟩
  classical
  obtain ⟨N, hN⟩ : ∃ N, N = Nat.find hex := ⟨_, rfl⟩
  have hspec : (r : EReal) < fieldValue N := hN ▸ Nat.find_spec hex
  have hle : N ≤ 253 := hN ▸ Nat.find_min' hex h253
  have hne : N ≠ 0 := by
    rintro rfl
    have : fieldValue 0 = 0 := by simp [fieldValue]
    rw [this] at hspec
    exact absurd hspec (not_lt.2 (EReal.coe_nonneg.2 hpos.le))
  have hmin : ∀ k, k < N → ¬ (r : EReal) < fieldValue k := fun k hk => Nat.find_min hex (hN ▸ hk)
  have hc : countBelow r = N := by
    unfold countBelow
    have hset : (Finset.univ.filter fun k : Fin 256 => ¬ ((r : EReal) < fieldValue k.val)) = Finset.univ.filter fun k : Fin 256 => k.val < N := by
      ext k
      simp only [Finset.mem_filter, Finset.mem_univ, true_and]
      refine ⟨fun h => ?_, fun h => hmin k.val h⟩
      by_contra hk
      exact h (hspec.trans_le (fieldValue_mono (by omega) k.isLt))
    rw [hset, Fin.card_filter_val_lt]
    omega
  rw [hc]
  refine ⟨by omega, hle, ?_, ?_⟩
  · by_cases h1N : N = 1
    · subst h1N; simpa using h0
    · have h := hmin (N - 1) (by omega)
      rw [fieldValue, if_neg (by omega), if_neg (by omega), not_lt] at h
      have h := EReal.coe_le_coe_iff.1 h
      have e : (((N - 1 : ℕ) : ℤ) - 127) = (N : ℤ) - 128 := by omega
      rwa [e] at h
  · unfold fieldValue at hspec
    rw [if_neg hne, if_neg (by omega)] at hspec
    exact EReal.coe_lt_coe_iff.1 hspec

/-- The floor of a logarithm in base two. -/
theorem floor_log (r : ℝ) (z : ℤ) (h0 : (2 : ℝ) ^ z ≤ r) (h1 : r < (2 : ℝ) ^ (z + 1)) : ⌊Real.log r / Real.log 2⌋ = z := by
  have hr : 0 < r := lt_of_lt_of_le (by positivity) h0
  have hl2 : (0 : ℝ) < Real.log 2 := Real.log_pos (by norm_num)
  rw [Int.floor_eq_iff]
  constructor
  · rw [le_div_iff₀ hl2, ← Real.log_zpow]
    exact Real.log_le_log (by positivity) h0
  · rw [div_lt_iff₀ hl2, show (z : ℝ) + 1 = ((z + 1 : ℤ) : ℝ) by push_cast; ring, ← Real.log_zpow]
    exact Real.log_lt_log hr h1

theorem pow_two_int (z : ℤ) : Ideal.pow (Ideal.ofBits .f32 0x40000000#32) ((z : ℝ) : EReal) = (((2 : ℝ) ^ z : ℝ) : EReal) := by
  rw [lit_two]
  show ((Real.rpow 2 (z : ℝ) : ℝ) : EReal) = _
  rw [show Real.rpow 2 (z : ℝ) = (2 : ℝ) ^ (z : ℝ) from rfl, Real.rpow_intCast]

theorem blockExp_zero : blockExp 0 = ((0 : ℤ) : ℝ) := by simp [blockExp]

/-- The reference's exponent of a block in range. -/
theorem blockExp_eq (M : EReal) (r : ℝ) (hr : M * Ideal.ofBits .f32 0x3B124925#32 = (r : EReal)) (hpos : 0 < r) (z : ℤ)
    (h0 : (2 : ℝ) ^ (z - 1) ≤ r) (h1 : r < (2 : ℝ) ^ z) : blockExp M = ((z : ℝ) : EReal) := by
  have hM : M ≠ 0 := by
    rintro rfl
    rw [zero_mul] at hr
    exact hpos.ne (EReal.coe_eq_coe_iff.1 (by simpa using hr))
  have hl2 : (0 : ℝ) < Real.log 2 := Real.log_pos (by norm_num)
  have e1 : Ideal.log (r : EReal) = ((Real.log r : ℝ) : EReal) := by
    show (if r ≤ 0 then ⊥ else (Real.log r : EReal)) = _
    rw [if_neg (not_le.2 hpos)]
  have e2 : Ideal.log ((2 : ℝ) : EReal) = ((Real.log 2 : ℝ) : EReal) := by
    show (if (2 : ℝ) ≤ 0 then ⊥ else (Real.log 2 : EReal)) = _
    rw [if_neg (by norm_num)]
  have e3 : Ideal.div ((Real.log r : ℝ) : EReal) ((Real.log 2 : ℝ) : EReal) = ((Real.log r / Real.log 2 : ℝ) : EReal) := by
    unfold Ideal.div
    rw [if_neg (by exact_mod_cast hl2.ne'), ← EReal.coe_inv, ← EReal.coe_mul, div_eq_mul_inv]
  unfold blockExp
  rw [if_neg hM, hr, lit_two, lit_one, e1, e2, e3]
  show ((⌊Real.log r / Real.log 2⌋ : ℝ) : EReal) + _ = _
  rw [floor_log r (z - 1) h0 (by simpa using h1), ← EReal.coe_add]
  congr 1
  push_cast
  ring

/-! ### The kernel's words -/

/-- The exponent word of zero. -/
theorem exponent_zero (y : FVec Ideal S1x128 .f32) (j : Fin 128) (hr : y (ix2 0 j) = (0 : EReal)) : exponent y (ix2 0 j) = 0#32 := by
  pointwise [exponent, fields]
  rw [if_pos hr]

/-- The exponent word of another number. -/
theorem exponent_count (y : FVec Ideal S1x128 .f32) (j : Fin 128) (r : ℝ) (hr : y (ix2 0 j) = (r : EReal)) (hz : r ≠ 0) :
    exponent y (ix2 0 j) = BitVec.ofNat 32 (countBelow r) - 1#32 - 126#32 := by
  pointwise [exponent, fields]
  have hw : ∀ x : Fin 256, IntOp.shli ArithUnit.vector (IntOp.addi (IntOp.subi (BitVec.ofNat 32 x.val) 127#32) 127#32) 23#32
      = BitVec.ofNat 32 x.val <<< 23 := by decide +kernel
  rw [if_neg (by rw [hr]; simpa using hz)]
  refine congrArg (fun w => IntOp.subi (IntOp.subi w 1#32) 126#32) ?_
  rw [countBelow, ← fold_count]
  refine Finset.fold_congr fun x _ => if_congr ?_ rfl rfl
  rw [← ofBits_field x.val x.isLt, ← hw x, ← hr]

theorem scale_word (e : IVec S1x128 32) (j : Fin 128) (n : ℕ) (h1 : 1 ≤ n) (h2 : n ≤ 253) (he : e (ix2 0 j) = BitVec.ofNat 32 n - 1#32 - 126#32) :
    pow2 (F := Ideal) e (ix2 0 j) = (((2 : ℝ) ^ ((n : ℤ) - 127) : ℝ) : EReal)
      ∧ pow2 (F := Ideal) (subi (broadcast S1x128 0#32) e) (ix2 0 j) = (((2 : ℝ) ^ (-((n : ℤ) - 127)) : ℝ) : EReal) := by
  have hw : ∀ x : Fin 256, IntOp.shli ArithUnit.vector (IntOp.addi (BitVec.ofNat 32 x.val - 1#32 - 126#32) 127#32) 23#32
      = BitVec.ofNat 32 x.val <<< 23 := by decide +kernel
  have hv : ∀ x : Fin 254, IntOp.shli ArithUnit.vector (IntOp.addi (IntOp.subi 0#32 (BitVec.ofNat 32 x.val - 1#32 - 126#32)) 127#32) 23#32
      = BitVec.ofNat 32 (254 - x.val) <<< 23 := by decide +kernel
  constructor
  · pointwise [pow2]
    rw [he, hw ⟨n, by omega⟩, ofBits_field n (by omega), fieldValue, if_neg (by omega), if_neg (by omega)]
  · pointwise [pow2]
    rw [he, hv ⟨n, by omega⟩, ofBits_field (254 - n) (by omega), fieldValue, if_neg (by omega), if_neg (by omega)]
    have e : (((254 - n : ℕ) : ℤ) - 127) = -((n : ℤ) - 127) := by omega
    rw [e]

/-- Scale and inverse of a block in range are the reference's powers of two. -/
theorem scale_eq (y : FVec Ideal S1x128 .f32) (j : Fin 128) (M : EReal) (hy : y (ix2 0 j) = M * Ideal.ofBits .f32 0x3B124925#32)
    (h : InRange (M * Ideal.ofBits .f32 0x3B124925#32)) :
    pow2 (F := Ideal) (exponent y) (ix2 0 j) = Ideal.pow (Ideal.ofBits .f32 0x40000000#32) (blockExp M)
      ∧ pow2 (F := Ideal) (subi (broadcast S1x128 0#32) (exponent y)) (ix2 0 j)
        = Ideal.pow (Ideal.ofBits .f32 0x40000000#32) (-(blockExp M)) := by
  suffices H : ∃ n : ℕ, 1 ≤ n ∧ n ≤ 253 ∧ exponent y (ix2 0 j) = BitVec.ofNat 32 n - 1#32 - 126#32 ∧ blockExp M = (((n : ℤ) - 127 : ℤ) : ℝ) by
    obtain ⟨n, h1, h2, he, hb⟩ := H
    obtain ⟨ha, hc⟩ := scale_word (exponent y) j n h1 h2 he
    rw [ha, hc, hb, pow_two_int, ← EReal.coe_neg, ← Int.cast_neg, pow_two_int]
    exact ⟨rfl, rfl⟩
  rcases h with h | ⟨h0, h1⟩
  · have hM : M = 0 := by
      rcases mul_eq_zero.1 h with h | h
      · exact h
      · rw [lit_ratio] at h
        exact absurd (EReal.coe_eq_coe_iff.1 (h.trans EReal.coe_zero.symm)) (by norm_num)
    refine ⟨127, by norm_num, by norm_num, ?_, ?_⟩
    · rw [exponent_zero y j (hy.trans h)]; decide
    · rw [hM, blockExp_zero]; norm_num
  · obtain ⟨r, hr⟩ : ∃ r : ℝ, M * Ideal.ofBits .f32 0x3B124925#32 = (r : EReal) :=
      ⟨_, (EReal.coe_toReal (ne_top_of_lt h1) ((EReal.bot_lt_coe _).trans_le h0).ne').symm⟩
    rw [hr] at h0 h1
    have h0 := EReal.coe_le_coe_iff.1 h0
    have h1 := EReal.coe_lt_coe_iff.1 h1
    have hpos : (0 : ℝ) < r := lt_of_lt_of_le (by positivity) h0
    obtain ⟨a, b, c, d⟩ := countBelow_between r h0 h1
    refine ⟨countBelow r, a, b, exponent_count y j r (hy.trans hr) hpos.ne', ?_⟩
    refine blockExp_eq M r hr hpos _ ?_ d
    rwa [show (countBelow r : ℤ) - 127 - 1 = (countBelow r : ℤ) - 128 by ring]

end Cert.Quant

end
-- ==== Proof.QuantSpec.lean ====
/- What the quantise call computes: the largest magnitude of a block of 128 tokens of one head, the block's scale and the
   codes of its numbers, of an array of 32768 tokens by 4096 features. -/
module

public import proofs.«01_k».proof.Proof.QuantExponent
public import Idealize.ShloMosaic.Lib.Pointwise

@[expose] public section

noncomputable section

namespace Cert.Quant

open Idealize.ShloMosaic Idealize.ShloMosaic.Pointwise
open Cert.Attn (lit_neg_inf)

/-- An array of tokens by features. -/
abbrev Tokens := (⟨2, ![32768, 4096]⟩ : Shape).Idx → EReal

/-- Feature `f` of token `n`. -/
def entry (a : Tokens) (n f : ℕ) : EReal := a (ix2 (Fin.ofNat 32768 n) (Fin.ofNat 4096 f))

/-- The largest magnitude of block `b` of head `h`. -/
def amax (a : Tokens) (b h : ℕ) : EReal :=
  Finset.univ.sup fun c : Fin 128 => Finset.univ.sup fun r : Fin 128 =>
    max (entry a (128 * b + r.val) (128 * h + c.val)) (-(entry a (128 * b + r.val) (128 * h + c.val)))

/-- The scale of block `b` at feature `f`. -/
def scale (a : Tokens) (b f : ℕ) : EReal := Ideal.pow (Ideal.ofBits .f32 0x40000000#32) (blockExp (amax a b (f / 128)))

/-- The code of feature `f` of token `n`. -/
def code (a : Tokens) (n f : ℕ) : EReal :=
  min (Ideal.ofBits .f32 0x43E00000#32) (max (Ideal.ofBits .f32 0xC3E00000#32)
    (entry a n f * Ideal.pow (Ideal.ofBits .f32 0x40000000#32) (-(blockExp (amax a (n / 128) (f / 128))))))

/-- Every block's largest magnitude over `448` is in range. -/
def AllInRange (a : Tokens) : Prop := ∀ (b : Fin 256) (h : Fin 32), InRange (amax a b.val h.val * Ideal.ofBits .f32 0x3B124925#32)

/-- A maximum over the tokens and the features of every block. -/
theorem reduce_max (N : ℕ) (x : (⟨4, ![N, 128, 32, 128]⟩ : Shape).Idx → EReal) {u : Shape} (init : u.Idx → EReal) (hu : 0 < u.numel)
    (hi : init (Shape.Idx.first hu) = ⊥) (h : (⟨4, ![N, 128, 32, 128]⟩ : Shape).ReducesTo [1, 3] ⟨2, ![N, 32]⟩) (B : Fin N) (k : Fin 32) :
    Host.reduce (max : EReal → EReal → EReal) x init h hu (ix2 B k)
      = Finset.univ.sup fun c : Fin 128 => Finset.univ.sup fun r : Fin 128 => x (ix4 B r k c) := by
  rw [Host.reduce_eq_fold, hi]
  show (Finset.univ.filter fun i => h.drop i = ix2 B k).sup x = _
  have d0 : ∀ i : (⟨4, ![N, 128, 32, 128]⟩ : Shape).Idx, (h.drop i 0 : ℕ) = i 0 := fun i => rfl
  have d1 : ∀ i : (⟨4, ![N, 128, 32, 128]⟩ : Shape).Idx, (h.drop i 1 : ℕ) = i 2 := fun i => rfl
  apply le_antisymm
  · refine Finset.sup_le fun i hm => ?_
    have hd := (Finset.mem_filter.1 hm).2
    have e0 : (i 0).val = B.val := by rw [← d0, hd]; rfl
    have e2 : (i 2).val = k.val := by rw [← d1, hd]; rfl
    have e : i = ix4 B (⟨(i 1).val, (i 1).isLt⟩ : Fin 128) k (⟨(i 3).val, (i 3).isLt⟩ : Fin 128) := by
      refine funext fun a => Fin.ext ?_
      fin_cases a
      · exact e0
      · rfl
      · exact e2
      · rfl
    rw [e]
    exact (Finset.le_sup (f := fun r : Fin 128 => x (ix4 B r k (⟨(i 3).val, (i 3).isLt⟩ : Fin 128))) (Finset.mem_univ _)).trans
      (Finset.le_sup (f := fun c : Fin 128 => Finset.univ.sup fun r : Fin 128 => x (ix4 B r k c)) (Finset.mem_univ _))
  · refine Finset.sup_le fun c _ => Finset.sup_le fun r _ => Finset.le_sup (f := x) (Finset.mem_filter.2 ⟨Finset.mem_univ _, ?_⟩)
    refine funext fun a => Fin.ext ?_
    fin_cases a
    · exact d0 _
    · exact d1 _

/-- A number broadcast to every index. -/
theorem broadcast_at {s t : Shape} (w : BitVec 32) (d : Fin s.rank → Fin t.rank) (h : s.BroadcastsInDim t d) (i : t.Idx) :
    broadcastInDim t d h (constant (F := Ideal) s .f32 w) i = Ideal.ofBits .f32 w := rfl

end Cert.Quant

end
-- ==== Proof.QuantTile.lean ====
/- What the quantise call computes of a block of 256 tokens: its codes and scales are `code` and `scale` of the array. -/
module

public import proofs.«01_k».proof.Proof.QuantBlock
public import proofs.«01_k».proof.Proof.QuantSpec

@[expose] public section

noncomputable section

namespace Cert.Quant

open Cert.QuantiseIdeal Cert.QuantiseIdeal.Gen Idealize.ShloMosaic Idealize.ShloMosaic.Pointwise
open Cert.Attn (lit_neg_inf fold_max_eq_sup)

/-! ### A tile -/

/-- The largest magnitude of a tile. -/
def tileMax (v : Vec Ideal S128x128 .bf16) : EReal :=
  Finset.univ.sup fun c : Fin 128 => Finset.univ.sup fun r : Fin 128 => max (v (ix2 r c) : EReal) (-(v (ix2 r c) : EReal))

theorem ratio_at (v : Vec Ideal S128x128 .bf16) (j : Fin 128) : ratio v (ix2 0 j) = tileMax v * Ideal.ofBits .f32 0x3B124925#32 := by
  pointwise [ratio]
  rw [lit_neg_inf]
  simp only [fold_max_eq_sup]
  rfl

theorem clip_at (v : Vec Ideal S128x128 .bf16) (r c : Fin 128) : tileClip v (ix2 r c)
    = min (Ideal.ofBits .f32 0x43E00000#32) (max (Ideal.ofBits .f32 0xC3E00000#32)
      ((v (ix2 r c) : EReal) * pow2 (F := Ideal) (subi (broadcast S1x128 0#32) (exponent (ratio v))) (ix2 0 c))) := by
  unfold tileClip
  generalize pow2 (F := Ideal) (subi (broadcast S1x128 0#32) (exponent (ratio v))) = z
  pointwise []

theorem turned_at (v : Vec Ideal S128x128 .bf16) (r c : Fin 128) : tileTurned v (ix2 r c) = tileClip v (ix2 c r) := by
  unfold tileTurned
  generalize tileClip v = z
  pointwise []

theorem tileScale_at (v : Vec Ideal S128x128 .bf16) (c : Fin 128) : tileScale v (ix3 0 0 c) = pow2 (F := Ideal) (exponent (ratio v)) (ix2 0 c) := by
  unfold tileScale
  generalize (pow2 (F := Ideal) (exponent (ratio v)) : FVec Ideal S1x128 .f32) = z
  pointwise []

/-! ### A block of the array -/

/-- Block `x` is the tokens of `a` from `256 t` on. -/
def IsPart (x : Vec Ideal S256x4096 .bf16) (a : Tokens) (t : ℕ) : Prop :=
  ∀ (r : Fin 256) (f : Fin 4096), x (ix2 r f) = entry a (256 * t + r.val) f.val

variable {x : Vec Ideal S256x4096 .bf16} {a : Tokens} {t : ℕ} (hx : IsPart x a t)

theorem tile_at (x : Vec Ideal S256x4096 .bf16) (n : ℕ) (r c : Fin 128) : View.ld x (tile n) (ix2 r c)
    = x (ix2 (⟨128 * (n / 32 % 2) + r.val, by omega⟩ : Fin 256) (⟨128 * (n % 32) + c.val, by omega⟩ : Fin 4096)) := by
  refine congrArg x (funext fun k => Fin.ext ?_)
  fin_cases k <;> simp [tile, ix2, Rect.unit]

include hx

theorem part_at (n : ℕ) (r c : Fin 128) : View.ld x (tile n) (ix2 r c) = entry a (128 * (2 * t + n / 32 % 2) + r.val) (128 * (n % 32) + c.val) := by
  rw [tile_at, hx]
  exact congrArg (fun k => entry a k (128 * (n % 32) + c.val)) (by show 256 * t + (128 * (n / 32 % 2) + r.val) = _; omega)

theorem tileMax_at (n : ℕ) : tileMax (View.ld x (tile n)) = amax a (2 * t + n / 32 % 2) (n % 32) := by
  unfold tileMax amax
  refine Finset.sup_congr rfl fun c _ => Finset.sup_congr rfl fun r _ => ?_
  rw [part_at hx n r c]

variable (ht : t < 128) (ha : AllInRange a)
include ht ha

theorem pow2_at (n : ℕ) (c : Fin 128) :
    pow2 (F := Ideal) (exponent (ratio (View.ld x (tile n)))) (ix2 0 c) = Ideal.pow (Ideal.ofBits .f32 0x40000000#32) (blockExp (amax a (2 * t + n / 32 % 2) (n % 32)))
    ∧ pow2 (F := Ideal) (subi (broadcast S1x128 0#32) (exponent (ratio (View.ld x (tile n))))) (ix2 0 c)
      = Ideal.pow (Ideal.ofBits .f32 0x40000000#32) (-(blockExp (amax a (2 * t + n / 32 % 2) (n % 32)))) := by
  have h := ha (⟨2 * t + n / 32 % 2, by omega⟩ : Fin 256) (⟨n % 32, by omega⟩ : Fin 32)
  exact scale_eq _ c _ ((ratio_at _ c).trans (by rw [tileMax_at hx n])) h

theorem codeAt_eq (n : ℕ) (r c : Fin 128) : codeAt x n r c = code a (128 * (2 * t + n / 32 % 2) + r.val) (128 * (n % 32) + c.val) := by
  unfold codeAt
  refine (clip_at (View.ld x (tile n)) r c).trans ((congrArg₂ (fun u w : EReal => min (Ideal.ofBits .f32 0x43E00000#32)
    (max (Ideal.ofBits .f32 0xC3E00000#32) (u * w))) (part_at hx n r c) (pow2_at hx ht ha n c).2).trans ?_)
  unfold code
  rw [show (128 * (2 * t + n / 32 % 2) + r.val) / 128 = 2 * t + n / 32 % 2 by omega, show (128 * (n % 32) + c.val) / 128 = n % 32 by omega]

theorem turnedAt_eq (n : ℕ) (r c : Fin 128) : turnedAt x n r c = code a (128 * (2 * t + n / 32 % 2) + c.val) (128 * (n % 32) + r.val) := by
  exact (turned_at (View.ld x (tile n)) r c).trans (codeAt_eq hx ht ha n c r)

theorem scaleAt_eq (n : ℕ) (c : Fin 128) : scaleAt x n c = scale a (2 * t + n / 32 % 2) (128 * (n % 32) + c.val) := by
  unfold scaleAt
  refine (tileScale_at (View.ld x (tile n)) c).trans ((pow2_at hx ht ha n c).1.trans ?_)
  unfold scale
  rw [show (128 * (n % 32) + c.val) / 128 = n % 32 by omega]

/-! ### The block's results -/

theorem block_codes (y : S256x4096.Idx) : View.canon (Val := Elt Ideal) (codesOf x 64) y = code a (256 * t + (y 0).val) (y 1).val := by
  have h0 : (y 0).val < 256 := (y 0).isLt
  have h1 : (y 1).val < 4096 := (y 1).isLt
  rw [canon_codes, codeAt_eq hx ht ha]
  unfold tileOf
  exact congrArg₂ (code a) (by simp [Fin.ofNat]; omega) (by simp [Fin.ofNat]; omega)

theorem block_scales (y : S2x1x4096.Idx) : View.canon (Val := Elt Ideal) (scalesOf x 64) y = scale a (2 * t + (y 0).val) (y 2).val := by
  have h0 : (y 0).val < 2 := (y 0).isLt
  have h1 : (y 2).val < 4096 := (y 2).isLt
  rw [canon_scales, scaleAt_eq hx ht ha]
  unfold tileOf
  exact congrArg₂ (scale a) (by omega) (by simp [Fin.ofNat]; omega)

theorem block_turned (y : S4096x256.Idx) : View.canon (Val := Elt Ideal) (turnedOf x 64) y = code a (256 * t + (y 1).val) (y 0).val := by
  have h0 : (y 0).val < 4096 := (y 0).isLt
  have h1 : (y 1).val < 256 := (y 1).isLt
  rw [canon_turned, turnedAt_eq hx ht ha]
  unfold tileOf
  exact congrArg₂ (code a) (by simp [Fin.ofNat]; omega) (by simp [Fin.ofNat]; omega)

end Cert.Quant

end
-- ==== Proof.QuantArray.lean ====
/- What the quantise call leaves in its seven result arrays: `code` and `scale` of the three argument arrays. -/
module

public import proofs.«01_k».proof.Proof.QuantTile
public import proofs.«01_k».proof.Proof.Gen.QuantiseIdeal.Value
public import Idealize.ShloMosaic.Lib.Pipeline.ValueKit
public import Idealize.ShloMosaic.Lib.Pipeline.ReadBack
public import Idealize.ShloMosaic.Lib.Pipeline.Covers

@[expose] public section

noncomputable section

namespace Cert.Quant

open Cert.QuantiseIdeal Cert.QuantiseIdeal.Gen Cert.QuantiseIdeal.Value Idealize.ShloMosaic Idealize.ShloMosaic.TcCoe Idealize.SL.Sem
open Idealize.ShloMosaic.Pointwise

variable (m : (ℓ : Loc nD τ sig) → Buf (Elt Ideal) ℓ) (c : Dev nD)

theorem toNat_ofNat_lt (n b : ℕ) (h : n < b) (hb : b ≤ 2 ^ 32) : (BitVec.ofNat 32 n).toNat = n := by
  simp only [BitVec.toNat_ofNat]; omega

/-- The block of tokens of grid point `t`. -/
def partOf (t : Fin cfg0.N) : Fin 128 := grid0.coords t 0

/-! ### Where each window's block lies -/

theorem index0 (t : Fin cfg0.N) : win0_0.index t = ![(partOf t).val, 0] := by
  show ![(BitVec.ofNat 32 (partOf t).val).toNat, 0] = _
  rw [toNat_ofNat_lt _ 128 (partOf t).isLt (by norm_num)]

theorem index1 (t : Fin cfg0.N) : win0_1.index t = ![(partOf t).val, 0] := index0 t
theorem index2 (t : Fin cfg0.N) : win0_2.index t = ![(partOf t).val, 0] := index0 t
theorem index3 (t : Fin cfg0.N) : win0_3.index t = ![(partOf t).val, 0] := index0 t
theorem index5 (t : Fin cfg0.N) : win0_5.index t = ![(partOf t).val, 0] := index0 t
theorem index7 (t : Fin cfg0.N) : win0_7.index t = ![(partOf t).val, 0] := index0 t

theorem index4 (t : Fin cfg0.N) : win0_4.index t = ![(partOf t).val, 0, 0] := by
  show ![(BitVec.ofNat 32 (partOf t).val).toNat, 0, 0] = _
  rw [toNat_ofNat_lt _ 128 (partOf t).isLt (by norm_num)]

theorem index6 (t : Fin cfg0.N) : win0_6.index t = ![(partOf t).val, 0, 0] := index4 t
theorem index8 (t : Fin cfg0.N) : win0_8.index t = ![(partOf t).val, 0, 0] := index4 t

theorem index9 (t : Fin cfg0.N) : win0_9.index t = ![0, (partOf t).val] := by
  show ![0, (BitVec.ofNat 32 (partOf t).val).toNat] = _
  rw [toNat_ofNat_lt _ 128 (partOf t).isLt (by norm_num)]

/-! ### What the blocks hold -/

theorem part0 (t : Fin cfg0.N) : IsPart (iblk m c 0 t) (m ((c.tc : Thread nD τ).loc main_arg0)) (partOf t).val := by
  intro r f
  show m ((c.tc : Thread nD τ).loc main_arg0) ((win0_0.blk t).view.emb (ix2 r f)) = m ((c.tc : Thread nD τ).loc main_arg0) _
  refine congrArg (m ((c.tc : Thread nD τ).loc main_arg0)) (funext fun a => Fin.ext ?_)
  have := (partOf t).isLt
  fin_cases a <;> blk_simp [index0] <;> simp [ix2] <;> omega

theorem part1 (t : Fin cfg0.N) : IsPart (iblk m c 1 t) (m ((c.tc : Thread nD τ).loc main_arg1)) (partOf t).val := by
  intro r f
  show m ((c.tc : Thread nD τ).loc main_arg1) ((win0_1.blk t).view.emb (ix2 r f)) = m ((c.tc : Thread nD τ).loc main_arg1) _
  refine congrArg (m ((c.tc : Thread nD τ).loc main_arg1)) (funext fun a => Fin.ext ?_)
  have := (partOf t).isLt
  fin_cases a <;> blk_simp [index1] <;> simp [ix2] <;> omega

theorem part2 (t : Fin cfg0.N) : IsPart (iblk m c 2 t) (m ((c.tc : Thread nD τ).loc main_arg2)) (partOf t).val := by
  intro r f
  show m ((c.tc : Thread nD τ).loc main_arg2) ((win0_2.blk t).view.emb (ix2 r f)) = m ((c.tc : Thread nD τ).loc main_arg2) _
  refine congrArg (m ((c.tc : Thread nD τ).loc main_arg2)) (funext fun a => Fin.ext ?_)
  have := (partOf t).isLt
  fin_cases a <;> blk_simp [index2] <;> simp [ix2] <;> omega

/-! ### The result arrays -/

/-- The codes of an array, -/
def codesArr (a : Tokens) (j : S32768x4096.Idx) : EReal := code a (j 0).val (j 1).val

/-- transposed, -/
def turnedArr (a : Tokens) (j : S4096x32768.Idx) : EReal := code a (j 1).val (j 0).val

/-- and its scales. -/
def scalesArr (a : Tokens) (j : S256x1x4096.Idx) : EReal := scale a (j 0).val (j 2).val

theorem result3 (h : AllInRange (m ((c.tc : Thread nD τ).loc main_arg0))) :
    (dats m 0 c).arrAt 3 cfg0.N = codesArr (m ((c.tc : Thread nD τ).loc main_arg0)) := by
  refine (dats m 0 c).arrAt_eq_of_covers 3 _ (by decide +kernel) fun t hf y => ?_
  blk_simp
  rw [after0_3, out3_pieces]
  have hg := (partOf t).isLt
  have y0 : (y 0).val < 256 := (y 0).isLt
  have y1 : (y 1).val < 4096 := (y 1).isLt
  refine (block_codes (part0 m c t) hg h y).trans ?_
  have e0 : ((win0_3.blk t).view.emb y 0).val = 256 * (partOf t).val + (y 0).val := by blk_simp [index3]; simp; omega
  have e1 : ((win0_3.blk t).view.emb y 1).val = (y 1).val := by blk_simp [index3]
  unfold codesArr
  rw [e0, e1]

theorem result4 (h : AllInRange (m ((c.tc : Thread nD τ).loc main_arg0))) :
    (dats m 0 c).arrAt 4 cfg0.N = scalesArr (m ((c.tc : Thread nD τ).loc main_arg0)) := by
  refine (dats m 0 c).arrAt_eq_of_covers 4 _ (by decide +kernel) fun t hf y => ?_
  blk_simp
  rw [after0_4, out4_pieces]
  have hg := (partOf t).isLt
  have y0 : (y 0).val < 2 := (y 0).isLt
  have y2 : (y 2).val < 4096 := (y 2).isLt
  refine (block_scales (part0 m c t) hg h y).trans ?_
  have e0 : ((win0_4.blk t).view.emb y 0).val = 2 * (partOf t).val + (y 0).val := by blk_simp [index4]; simp; omega
  have e2 : ((win0_4.blk t).view.emb y 2).val = (y 2).val := by blk_simp [index4]
  unfold scalesArr
  rw [e0, e2]

theorem result5 (h : AllInRange (m ((c.tc : Thread nD τ).loc main_arg1))) :
    (dats m 0 c).arrAt 5 cfg0.N = codesArr (m ((c.tc : Thread nD τ).loc main_arg1)) := by
  refine (dats m 0 c).arrAt_eq_of_covers 5 _ (by decide +kernel) fun t hf y => ?_
  blk_simp
  rw [after0_5, out5_pieces]
  have hg := (partOf t).isLt
  have y0 : (y 0).val < 256 := (y 0).isLt
  have y1 : (y 1).val < 4096 := (y 1).isLt
  refine (block_codes (part1 m c t) hg h y).trans ?_
  have e0 : ((win0_5.blk t).view.emb y 0).val = 256 * (partOf t).val + (y 0).val := by blk_simp [index5]; simp; omega
  have e1 : ((win0_5.blk t).view.emb y 1).val = (y 1).val := by blk_simp [index5]
  unfold codesArr
  rw [e0, e1]

theorem result6 (h : AllInRange (m ((c.tc : Thread nD τ).loc main_arg1))) :
    (dats m 0 c).arrAt 6 cfg0.N = scalesArr (m ((c.tc : Thread nD τ).loc main_arg1)) := by
  refine (dats m 0 c).arrAt_eq_of_covers 6 _ (by decide +kernel) fun t hf y => ?_
  blk_simp
  rw [after0_6, out6_pieces]
  have hg := (partOf t).isLt
  have y0 : (y 0).val < 2 := (y 0).isLt
  have y2 : (y 2).val < 4096 := (y 2).isLt
  refine (block_scales (part1 m c t) hg h y).trans ?_
  have e0 : ((win0_6.blk t).view.emb y 0).val = 2 * (partOf t).val + (y 0).val := by blk_simp [index6]; simp; omega
  have e2 : ((win0_6.blk t).view.emb y 2).val = (y 2).val := by blk_simp [index6]
  unfold scalesArr
  rw [e0, e2]

theorem result7 (h : AllInRange (m ((c.tc : Thread nD τ).loc main_arg2))) :
    (dats m 0 c).arrAt 7 cfg0.N = codesArr (m ((c.tc : Thread nD τ).loc main_arg2)) := by
  refine (dats m 0 c).arrAt_eq_of_covers 7 _ (by decide +kernel) fun t hf y => ?_
  blk_simp
  rw [after0_7, out7_pieces]
  have hg := (partOf t).isLt
  have y0 : (y 0).val < 256 := (y 0).isLt
  have y1 : (y 1).val < 4096 := (y 1).isLt
  refine (block_codes (part2 m c t) hg h y).trans ?_
  have e0 : ((win0_7.blk t).view.emb y 0).val = 256 * (partOf t).val + (y 0).val := by blk_simp [index7]; simp; omega
  have e1 : ((win0_7.blk t).view.emb y 1).val = (y 1).val := by blk_simp [index7]
  unfold codesArr
  rw [e0, e1]

theorem result8 (h : AllInRange (m ((c.tc : Thread nD τ).loc main_arg2))) :
    (dats m 0 c).arrAt 8 cfg0.N = scalesArr (m ((c.tc : Thread nD τ).loc main_arg2)) := by
  refine (dats m 0 c).arrAt_eq_of_covers 8 _ (by decide +kernel) fun t hf y => ?_
  blk_simp
  rw [after0_8, out8_pieces]
  have hg := (partOf t).isLt
  have y0 : (y 0).val < 2 := (y 0).isLt
  have y2 : (y 2).val < 4096 := (y 2).isLt
  refine (block_scales (part2 m c t) hg h y).trans ?_
  have e0 : ((win0_8.blk t).view.emb y 0).val = 2 * (partOf t).val + (y 0).val := by blk_simp [index8]; simp; omega
  have e2 : ((win0_8.blk t).view.emb y 2).val = (y 2).val := by blk_simp [index8]
  unfold scalesArr
  rw [e0, e2]

theorem result9 (h : AllInRange (m ((c.tc : Thread nD τ).loc main_arg2))) :
    (dats m 0 c).arrAt 9 cfg0.N = turnedArr (m ((c.tc : Thread nD τ).loc main_arg2)) := by
  refine (dats m 0 c).arrAt_eq_of_covers 9 _ (by decide +kernel) fun t hf y => ?_
  blk_simp
  rw [after0_9, out9_pieces]
  have hg := (partOf t).isLt
  have y0 : (y 0).val < 4096 := (y 0).isLt
  have y1 : (y 1).val < 256 := (y 1).isLt
  refine (block_turned (part2 m c t) hg h y).trans ?_
  have e0 : ((win0_9.blk t).view.emb y 0).val = (y 0).val := by blk_simp [index9]
  have e1 : ((win0_9.blk t).view.emb y 1).val = 256 * (partOf t).val + (y 1).val := by blk_simp [index9]; simp; omega
  unfold turnedArr
  rw [e0, e1]

end Cert.Quant

end
-- ==== Proof.QuantRange.lean ====
/- The precondition of the quantise call read block by block: the largest magnitude over `448` is in range. -/
module

public import proofs.«01_k».proof.Pre_largest_in_range
public import proofs.«01_k».proof.Proof.QuantSpec
public import proofs.«01_k».proof.Proof.Scales

@[expose] public section

noncomputable section

namespace Cert.Quant

open Cert.Pre_largest_in_range Idealize.ShloMosaic Idealize.ShloMosaic.Pointwise
open Cert.Attn (of_ofBool lit_zero lit_neg_inf)

theorem rangeFacts : Cert.Pre_largest_in_range.Facts := by
  constructor <;> decide +kernel

variable [Cert.Pre_largest_in_range.Facts]
open Cert.Pre_largest_in_range.Facts

/-- The largest magnitude of every block, as the precondition takes it, -/
def preMax (a : FVec Ideal S32768x4096 .bf16) : FVec Ideal S256x32 .f32 :=
  Host.reduce FloatOps.maximumf (Host.absf (shapeCast S256x128x32x128 ((extf .f32 · bitsLt_bf16_f32) a) shapeCasts_S32768x4096_S256x128x32x128))
    (constant S_ .f32 0xFF800000#32) reducesTo_S256x128x32x128_S256x32_d1_3 h_S_

/-- what it asks of them, -/
def preBits (M : FVec Ideal S256x32 .f32) : IVec S256x32 1 :=
  ori (cmpf .oeq (mulf M (broadcastInDim S256x32 ![] bcast_S_S256x32 (constant S_ .f32 0x3B124925#32)))
      (broadcastInDim S256x32 ![] bcast_S_S256x32 (constant S_ .f32 0x00000000#32)))
    (andi (cmpf .oge (mulf M (broadcastInDim S256x32 ![] bcast_S_S256x32 (constant S_ .f32 0x3B124925#32)))
        (broadcastInDim S256x32 ![] bcast_S_S256x32 (constant S_ .f32 0x00400000#32)))
      (cmpf .olt (mulf M (broadcastInDim S256x32 ![] bcast_S_S256x32 (constant S_ .f32 0x3B124925#32)))
        (broadcastInDim S256x32 ![] bcast_S_S256x32 (constant S_ .f32 0x7E800000#32))))

/-- and of one of them. -/
def preBit (M : EReal) : BitVec 1 :=
  let y : Ideal .f32 := M * Ideal.ofBits .f32 0x3B124925#32
  IntOp.ori (FloatOps.cmpf (F := Ideal) (φ := .f32) .oeq y (Ideal.ofBits .f32 0x00000000#32))
    (IntOp.andi (FloatOps.cmpf (F := Ideal) (φ := .f32) .oge y (Ideal.ofBits .f32 0x00400000#32))
      (FloatOps.cmpf (F := Ideal) (φ := .f32) .olt y (Ideal.ofBits .f32 0x7E800000#32)))

theorem preBits_at (M : FVec Ideal S256x32 .f32) (i : S256x32.Idx) : preBits M i = preBit (M i) := by
  simp only [preBits, preBit, ori, andi, cmpf, mulf, broadcast_at]
  rfl

theorem lit_low : Ideal.ofBits .f32 0x00400000#32 = (((2 : ℝ) ^ (-127 : ℤ) : ℝ) : EReal) := by
  simp [Ideal.ofBits, Ideal.ieee, -EReal.coe_mul]; norm_num

theorem lit_high : Ideal.ofBits .f32 0x7E800000#32 = (((2 : ℝ) ^ (126 : ℤ) : ℝ) : EReal) := by
  simp [Ideal.ofBits, Ideal.ieee, -EReal.coe_mul]
  norm_cast

theorem or_one : ∀ a b : BitVec 1, IntOp.ori a b = 1#1 → a = 1#1 ∨ b = 1#1 := by decide
theorem and_one : ∀ a b : BitVec 1, IntOp.andi a b = 1#1 → a = 1#1 ∧ b = 1#1 := by decide

theorem inRange_of_bit (M : EReal) (h : preBit M = 1#1) : InRange (M * Ideal.ofBits .f32 0x3B124925#32) := by
  rcases or_one _ _ h with h | h
  · exact .inl ((of_decide_eq_true (of_ofBool h)).trans lit_zero)
  · obtain ⟨h1, h2⟩ := and_one _ _ h
    exact .inr ⟨lit_low ▸ of_decide_eq_true (of_ofBool h1), lit_high ▸ of_decide_eq_true (of_ofBool h2)⟩

theorem preBlocks_at (a : FVec Ideal S32768x4096 .bf16) (B : Fin 256) (r : Fin 128) (k : Fin 32) (c : Fin 128) :
    shapeCast S256x128x32x128 a shapeCasts_S32768x4096_S256x128x32x128 (ix4 B r k c) = entry a (128 * B.val + r.val) (128 * k.val + c.val) := by
  have e : shapeCast S256x128x32x128 a shapeCasts_S32768x4096_S256x128x32x128 (ix4 B r k c)
      = a (ix2 ⟨B.val * 128 + r.val, by omega⟩ ⟨k.val * 128 + c.val, by omega⟩) := by pointwise []
  rw [e, entry]
  refine congrArg a (funext fun x => Fin.ext ?_)
  fin_cases x <;> simp [ix2, Fin.ofNat] <;> omega

theorem preMax_at (a : FVec Ideal S32768x4096 .bf16) (B : Fin 256) (k : Fin 32) : preMax a (ix2 B k) = amax a B.val k.val := by
  refine (reduce_max 256 _ (constant (F := Ideal) S_ .f32 0xFF800000#32) h_S_ lit_neg_inf reducesTo_S256x128x32x128_S256x32_d1_3 B k).trans ?_
  refine Finset.sup_congr rfl fun c _ => Finset.sup_congr rfl fun r _ => ?_
  rw [← preBlocks_at a B r k c]
  rfl

variable (a0 a1 a2 : FVec Ideal S32768x4096 .bf16)

theorem fn_eq : fn (F := Ideal) a0 a1 a2 = (preBits (preMax a0), preBits (preMax a1), preBits (preMax a2)) := rfl

theorem range_of (a : FVec Ideal S32768x4096 .bf16) (h : preBits (preMax a) = fun _ => 1#1) : AllInRange a := fun b k =>
  inRange_of_bit _ (by rw [← preMax_at, ← preBits_at, h])

theorem range_x (h : (fn (F := Ideal) a0 a1 a2).1 = fun _ => 1#1) : AllInRange a0 := range_of a0 (by rw [fn_eq] at h; exact h)
theorem range_k (h : (fn (F := Ideal) a0 a1 a2).2.1 = fun _ => 1#1) : AllInRange a1 := range_of a1 (by rw [fn_eq] at h; exact h)
theorem range_v (h : (fn (F := Ideal) a0 a1 a2).2.2 = fun _ => 1#1) : AllInRange a2 := range_of a2 (by rw [fn_eq] at h; exact h)

end Cert.Quant

end
-- ==== Proof.QuantReference.lean ====
/- The reference of the quantise call: its codes and scales at an index. The three arrays are read as one of 98304 tokens. -/
module

public import proofs.«01_k».proof.Proof.QuantSpec
public import proofs.«01_k».proof.Proof.Scales
public import proofs.«01_k».proof.Proof.Gen.QuantiseReferenceIdeal.Read
public import Idealize.ShloMosaic.Lib.Pipeline.ReadBack
public import Idealize.ShloMosaic.Lib.Pipeline.Covers

@[expose] public section

noncomputable section

namespace Cert.Quant

open Cert.QuantiseReferenceIdeal Cert.QuantiseReferenceIdeal.Gen Cert.QuantiseReferenceIdeal.Value Cert.QuantiseReferenceIdeal.Read
open Idealize.ShloMosaic Idealize.ShloMosaic.TcCoe Idealize.SL.Sem Idealize.ShloMosaic.Pointwise
open Cert.Attn (lit_neg_inf lit_zero of_ofBool)

/-! ### The operations before the region -/

section

variable (a0 a1 a2 : (⟨S32768x4096, .bf16⟩ : BufTy).Contents (Elt Ideal))

/-- The three arrays as blocks of 128 tokens by 32 heads by 128 features. -/
def refBlocks : FVec Ideal S768x128x32x128 .f32 :=
  shapeCast _ (extf .f32 ((concatenate S98304x4096 0 [⟨S32768x4096, a0⟩, ⟨S32768x4096, a1⟩, ⟨S32768x4096, a2⟩]
    concatenates_S32768x4096_S32768x4096_S32768x4096_S98304x4096_d0 : (⟨S98304x4096, .bf16⟩ : BufTy).Contents (Elt Ideal))) bitsLt_bf16_f32)
    shapeCasts_S98304x4096_S768x128x32x128

/-- The largest magnitude of every block. -/
def refMax : FVec Ideal S768x32 .f32 :=
  Host.reduce FloatOps.maximumf (Host.absf (refBlocks a0 a1 a2)) (constant S_ .f32 0xFF800000#32) reducesTo_S768x128x32x128_S768x32_d1_3 h_S_

/-- The exponent of every block. -/
def refExp : FVec Ideal S768x32 .f32 :=
  select (cmpf .oeq (refMax a0 a1 a2) (broadcastInDim S768x32 ![] bcast_S_S768x32 (constant S_ .f32 0x00000000#32)))
    (broadcastInDim S768x32 ![] bcast_S_S768x32 (id (constant S_ .f32 0x00000000#32)))
    (addf (Host.floor (Host.divf (Host.log (mulf (refMax a0 a1 a2) (broadcastInDim S768x32 ![] bcast_S_S768x32 (constant S_ .f32 0x3B124925#32))))
      (broadcastInDim S768x32 ![] bcast_S_S768x32 (id (Host.log (constant S_ .f32 0x40000000#32))))))
      (broadcastInDim S768x32 ![] bcast_S_S768x32 (constant S_ .f32 0x3F800000#32)))

/-- The clipped numbers of every block. -/
def refClip : FVec Ideal S768x128x32x128 .f32 :=
  minimumf (broadcastInDim S768x128x32x128 ![] bcast_S_S768x128x32x128 (id (constant S_ .f32 0x43E00000#32)))
    (maximumf (broadcastInDim S768x128x32x128 ![] bcast_S_S768x128x32x128 (id (constant S_ .f32 0xC3E00000#32)))
      (mulf (refBlocks a0 a1 a2) (broadcastInDim S768x128x32x128 ![0, 1, 2, 3] bcast_S768x1x32x1_S768x128x32x128_0_1_2_3
        (broadcastInDim S768x1x32x1 ![0, 2] bcast_S768x32_S768x1x32x1_0_2
          (Host.powf (broadcastInDim S768x32 ![] bcast_S_S768x32 (constant S_ .f32 0x40000000#32)) (Host.negf (refExp a0 a1 a2)))))))

/-- The clipped numbers as one array of 98304 tokens. -/
def refRows : FVec Ideal S98304x4096 .f32 := shapeCast _ (refClip a0 a1 a2) shapeCasts_S768x128x32x128_S98304x4096

end

/-! ### Elementwise -/

theorem max_of (y : FVec Ideal S768x128x32x128 .f32) (B : Fin 768) (k : Fin 32) :
    Host.reduce FloatOps.maximumf (Host.absf y) (constant S_ .f32 0xFF800000#32) reducesTo_S768x128x32x128_S768x32_d1_3 h_S_ (ix2 B k)
      = Finset.univ.sup fun c : Fin 128 => Finset.univ.sup fun r : Fin 128 => max (y (ix4 B r k c) : EReal) (-(y (ix4 B r k c) : EReal)) :=
  reduce_max 768 (Host.absf (F := Ideal) y) (constant (F := Ideal) S_ .f32 0xFF800000#32) h_S_ lit_neg_inf reducesTo_S768x128x32x128_S768x32_d1_3 B k

theorem two_at (i : S768x32.Idx) : broadcastInDim S768x32 ![] bcast_S_S768x32 (Host.log (constant (F := Ideal) S_ .f32 0x40000000#32)) i
    = Ideal.log (Ideal.ofBits .f32 0x40000000#32) := rfl

theorem sel_of (x w : EReal) : Scalar.select (FloatOps.cmpf (F := Ideal) (φ := .f32) .oeq x (Ideal.ofBits .f32 0#32)) (Ideal.ofBits .f32 0#32) w
    = if x = 0 then 0 else w := by
  rw [lit_zero]
  by_cases h : x = 0
  · rw [if_pos h]
    exact if_pos (congrArg BitVec.ofBool (decide_eq_true h))
  · rw [if_neg h]
    exact if_neg fun h' => h (of_decide_eq_true (of_ofBool h'))

theorem exp_of (y : FVec Ideal S768x32 .f32) (B : Fin 768) (k : Fin 32) :
    select (cmpf .oeq y (broadcastInDim S768x32 ![] bcast_S_S768x32 (constant S_ .f32 0x00000000#32)))
    (broadcastInDim S768x32 ![] bcast_S_S768x32 (id (constant S_ .f32 0x00000000#32)))
    (addf (Host.floor (Host.divf (Host.log (mulf y (broadcastInDim S768x32 ![] bcast_S_S768x32 (constant S_ .f32 0x3B124925#32))))
      (broadcastInDim S768x32 ![] bcast_S_S768x32 (id (Host.log (constant S_ .f32 0x40000000#32))))))
      (broadcastInDim S768x32 ![] bcast_S_S768x32 (constant S_ .f32 0x3F800000#32))) (ix2 B k) = blockExp (y (ix2 B k)) := by
  simp only [select, cmpf, addf, mulf, Host.floor, Host.divf, Host.log, id, broadcast_at, two_at]
  exact sel_of _ _

theorem spread_at (z : FVec Ideal S768x32 .f32) (B : Fin 768) (r : Fin 128) (k : Fin 32) (c : Fin 128) :
    broadcastInDim S768x128x32x128 ![0, 1, 2, 3] bcast_S768x1x32x1_S768x128x32x128_0_1_2_3
      (broadcastInDim S768x1x32x1 ![0, 2] bcast_S768x32_S768x1x32x1_0_2 z) (ix4 B r k c) = z (ix2 B k) := by
  pointwise []

theorem clip_of (y : FVec Ideal S768x128x32x128 .f32) (z : FVec Ideal S768x32 .f32) (B : Fin 768) (r : Fin 128) (k : Fin 32) (c : Fin 128) :
    minimumf (broadcastInDim S768x128x32x128 ![] bcast_S_S768x128x32x128 (id (constant S_ .f32 0x43E00000#32)))
    (maximumf (broadcastInDim S768x128x32x128 ![] bcast_S_S768x128x32x128 (id (constant S_ .f32 0xC3E00000#32)))
      (mulf y (broadcastInDim S768x128x32x128 ![0, 1, 2, 3] bcast_S768x1x32x1_S768x128x32x128_0_1_2_3
        (broadcastInDim S768x1x32x1 ![0, 2] bcast_S768x32_S768x1x32x1_0_2
          (Host.powf (broadcastInDim S768x32 ![] bcast_S_S768x32 (constant S_ .f32 0x40000000#32)) (Host.negf z)))))) (ix4 B r k c)
      = min (Ideal.ofBits .f32 0x43E00000#32) (max (Ideal.ofBits .f32 0xC3E00000#32)
        ((y (ix4 B r k c) : EReal) * Ideal.pow (Ideal.ofBits .f32 0x40000000#32) (-(z (ix2 B k) : EReal)))) := by
  simp only [minimumf, maximumf, mulf, id, broadcast_at]
  exact congrArg (fun w : EReal => min (Ideal.ofBits .f32 0x43E00000#32) (max (Ideal.ofBits .f32 0xC3E00000#32) ((y (ix4 B r k c) : EReal) * w)))
    (spread_at (Host.powf (broadcastInDim S768x32 ![] bcast_S_S768x32 (constant S_ .f32 0x40000000#32)) (Host.negf z)) B r k c)

/-! ### Read at an index -/

section

variable (a0 a1 a2 : (⟨S32768x4096, .bf16⟩ : BufTy).Contents (Elt Ideal))

theorem refBlocks_x (B : Fin 768) (b : ℕ) (hb : b < 256) (hB : B.val = b) (r : Fin 128) (k : Fin 32) (c : Fin 128) :
    refBlocks a0 a1 a2 (ix4 B r k c) = entry a0 (128 * b + r.val) (128 * k.val + c.val) := by
  unfold refBlocks
  pointwise []
  rw [dif_pos (by omega), entry]
  refine congrArg a0 (funext fun x => Fin.ext ?_)
  fin_cases x <;> simp [ix2, Fin.ofNat] <;> omega

theorem refBlocks_k (B : Fin 768) (b : ℕ) (hb : b < 256) (hB : B.val = 256 + b) (r : Fin 128) (k : Fin 32) (c : Fin 128) :
    refBlocks a0 a1 a2 (ix4 B r k c) = entry a1 (128 * b + r.val) (128 * k.val + c.val) := by
  unfold refBlocks
  pointwise []
  rw [dif_neg (by omega), dif_pos (by omega), entry]
  refine congrArg a1 (funext fun x => Fin.ext ?_)
  fin_cases x <;> simp [ix2, Fin.ofNat] <;> omega

theorem refBlocks_v (B : Fin 768) (b : ℕ) (hb : b < 256) (hB : B.val = 512 + b) (r : Fin 128) (k : Fin 32) (c : Fin 128) :
    refBlocks a0 a1 a2 (ix4 B r k c) = entry a2 (128 * b + r.val) (128 * k.val + c.val) := by
  unfold refBlocks
  pointwise []
  rw [dif_neg (by omega), dif_neg (by omega), entry]
  refine congrArg a2 (funext fun x => Fin.ext ?_)
  fin_cases x <;> simp [ix2, Fin.ofNat] <;> omega

/-- Block `B` of the three arrays is block `b` of `a`. -/
def IsBlock (B : Fin 768) (a : Tokens) (b : ℕ) : Prop :=
  ∀ (r : Fin 128) (k : Fin 32) (c : Fin 128), refBlocks a0 a1 a2 (ix4 B r k c) = entry a (128 * b + r.val) (128 * k.val + c.val)

variable {a0 a1 a2} {a : Tokens} {B : Fin 768} {b : ℕ} (hB : IsBlock a0 a1 a2 B a b)
include hB

theorem refMax_at (k : Fin 32) : refMax a0 a1 a2 (ix2 B k) = amax a b k.val := by
  unfold refMax
  unfold IsBlock at hB
  generalize refBlocks a0 a1 a2 = y at hB ⊢
  refine (max_of y B k).trans ?_
  unfold amax
  refine Finset.sup_congr rfl fun c _ => Finset.sup_congr rfl fun r _ => ?_
  rw [hB r k c]

theorem refExp_at (k : Fin 32) : refExp a0 a1 a2 (ix2 B k) = blockExp (amax a b k.val) := by
  have e := refMax_at hB k
  unfold refExp
  generalize refMax a0 a1 a2 = y at e ⊢
  rw [exp_of, e]

theorem refClip_at (r : Fin 128) (k : Fin 32) (c : Fin 128) :
    refClip a0 a1 a2 (ix4 B r k c) = code a (128 * b + r.val) (128 * k.val + c.val) := by
  have e := refExp_at hB k
  unfold refClip
  unfold IsBlock at hB
  generalize refExp a0 a1 a2 = z at e ⊢
  generalize refBlocks a0 a1 a2 = y at hB ⊢
  rw [clip_of, hB, e]
  unfold code
  rw [show (128 * b + r.val) / 128 = b by omega, show (128 * k.val + c.val) / 128 = k.val by omega]

end

theorem refRows_at (a0 a1 a2 : (⟨S32768x4096, .bf16⟩ : BufTy).Contents (Elt Ideal)) (n : Fin 98304) (f : Fin 4096) :
    refRows a0 a1 a2 (ix2 n f) = refClip a0 a1 a2 (ix4 (⟨n.val / 128, by omega⟩ : Fin 768) (⟨n.val % 128, by omega⟩ : Fin 128)
      (⟨f.val / 128, by omega⟩ : Fin 32) (⟨f.val % 128, by omega⟩ : Fin 128)) := by
  unfold refRows
  generalize refClip a0 a1 a2 = y
  pointwise []

theorem refRows_code (a0 a1 a2 : (⟨S32768x4096, .bf16⟩ : BufTy).Contents (Elt Ideal)) (a : Tokens) (n : Fin 98304) (f : Fin 4096) (b : ℕ)
    (hB : IsBlock a0 a1 a2 (⟨n.val / 128, by omega⟩ : Fin 768) a b) :
    refRows a0 a1 a2 (ix2 n f) = code a (128 * b + n.val % 128) f.val := by
  rw [refRows_at, refClip_at hB]
  show code a _ (128 * (f.val / 128) + f.val % 128) = _
  rw [show 128 * (f.val / 128) + f.val % 128 = f.val by omega]

variable (m : (ℓ : Loc nD τ sig) → Buf (Elt Ideal) ℓ) (c : Dev nD)

/-- The clipped numbers of a launch's arguments. -/
abbrev rowsOf : FVec Ideal S98304x4096 .f32 :=
  refRows (m ((c.tc : Thread nD τ).loc main_arg0)) (m ((c.tc : Thread nD τ).loc main_arg1)) (m ((c.tc : Thread nD τ).loc main_arg2))

theorem exp_at_exit : exitV m c (Proc.devRef .tc main_v17)
    = refExp (m ((c.tc : Thread nD τ).loc main_arg0)) (m ((c.tc : Thread nD τ).loc main_arg1)) (m ((c.tc : Thread nD τ).loc main_arg2)) :=
  exit_main_v17 m c

theorem before_x : V m c main_v26 = extractStridedSlice S32768x4096 ![0, 0] (rowsOf m c) slices_S98304x4096_S32768x4096_0_0 := by
  show Gen.V0 m c (Proc.devRef .tc main_v26) = _
  simp only [Gen.V0, Gen.hostOps0, Gen.hostOps0_1, Gen.hostOps0_2, Gen.hostOps0_3, Gen.hostOps0_4, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

theorem before_k : V m c main_v27 = extractStridedSlice S32768x4096 ![32768, 0] (rowsOf m c) slices_S98304x4096_S32768x4096_32768_0 := by
  show Gen.V0 m c (Proc.devRef .tc main_v27) = _
  simp only [Gen.V0, Gen.hostOps0, Gen.hostOps0_1, Gen.hostOps0_2, Gen.hostOps0_3, Gen.hostOps0_4, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

theorem before_v : V m c main_v28 = extractStridedSlice S32768x4096 ![65536, 0] (rowsOf m c) slices_S98304x4096_S32768x4096_65536_0 := by
  show Gen.V0 m c (Proc.devRef .tc main_v28) = _
  simp only [Gen.V0, Gen.hostOps0, Gen.hostOps0_1, Gen.hostOps0_2, Gen.hostOps0_3, Gen.hostOps0_4, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

theorem before_vt : V m c main_v30 = transpose S4096x32768 [1, 0] (extractStridedSlice S32768x4096 ![65536, 0] (rowsOf m c) slices_S98304x4096_S32768x4096_65536_0) transposes_S32768x4096_S4096x32768_1_0 := by
  show Gen.V0 m c (Proc.devRef .tc main_v30) = _
  simp only [Gen.V0, Gen.hostOps0, Gen.hostOps0_1, Gen.hostOps0_2, Gen.hostOps0_3, Gen.hostOps0_4, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

end Cert.Quant

end
-- ==== Proof.QuantResult.lean ====
/- The reference of the quantise call: its seven results are `code` and `scale` of the three arrays. -/
module

public import proofs.«01_k».proof.Proof.QuantReference

@[expose] public section

noncomputable section

namespace Cert.Quant

open Cert.QuantiseReferenceIdeal Cert.QuantiseReferenceIdeal.Gen Cert.QuantiseReferenceIdeal.Value Cert.QuantiseReferenceIdeal.Read
open Idealize.ShloMosaic Idealize.ShloMosaic.TcCoe Idealize.SL.Sem Idealize.ShloMosaic.Pointwise

/-! ### The codes -/

section

variable (a0 a1 a2 : (⟨S32768x4096, .bf16⟩ : BufTy).Contents (Elt Ideal)) (n : Fin 32768) (f : Fin 4096)

theorem rows_x : extractStridedSlice S32768x4096 ![0, 0] (refRows a0 a1 a2) slices_S98304x4096_S32768x4096_0_0 (ix2 n f) = code a0 n.val f.val := by
  have e := refRows_code a0 a1 a2 a0 (⟨n.val, by omega⟩ : Fin 98304) f (n.val / 128)
    (refBlocks_x a0 a1 a2 _ _ (by omega) (by show n.val / 128 = _; omega))
  generalize refRows a0 a1 a2 = y at e ⊢
  refine (extractStridedSlice_apply ![0, 0] y slices_S98304x4096_S32768x4096_0_0 (ix2 n f) (ix2 (⟨n.val, by omega⟩ : Fin 98304) f)
    (fun a => by fin_cases a <;> simp [ix2])).trans (e.trans ?_)
  exact congrArg (fun k => code a0 k f.val) (by show 128 * (n.val / 128) + n.val % 128 = _; omega)

theorem rows_k : extractStridedSlice S32768x4096 ![32768, 0] (refRows a0 a1 a2) slices_S98304x4096_S32768x4096_32768_0 (ix2 n f) = code a1 n.val f.val := by
  have e := refRows_code a0 a1 a2 a1 (⟨32768 + n.val, by omega⟩ : Fin 98304) f (n.val / 128)
    (refBlocks_k a0 a1 a2 _ _ (by omega) (by show (32768 + n.val) / 128 = _; omega))
  generalize refRows a0 a1 a2 = y at e ⊢
  refine (extractStridedSlice_apply ![32768, 0] y slices_S98304x4096_S32768x4096_32768_0 (ix2 n f) (ix2 (⟨32768 + n.val, by omega⟩ : Fin 98304) f)
    (fun a => by fin_cases a <;> simp [ix2])).trans (e.trans ?_)
  exact congrArg (fun k => code a1 k f.val) (by show 128 * (n.val / 128) + (32768 + n.val) % 128 = _; omega)

theorem rows_v : extractStridedSlice S32768x4096 ![65536, 0] (refRows a0 a1 a2) slices_S98304x4096_S32768x4096_65536_0 (ix2 n f) = code a2 n.val f.val := by
  have e := refRows_code a0 a1 a2 a2 (⟨65536 + n.val, by omega⟩ : Fin 98304) f (n.val / 128)
    (refBlocks_v a0 a1 a2 _ _ (by omega) (by show (65536 + n.val) / 128 = _; omega))
  generalize refRows a0 a1 a2 = y at e ⊢
  refine (extractStridedSlice_apply ![65536, 0] y slices_S98304x4096_S32768x4096_65536_0 (ix2 n f) (ix2 (⟨65536 + n.val, by omega⟩ : Fin 98304) f)
    (fun a => by fin_cases a <;> simp [ix2])).trans (e.trans ?_)
  exact congrArg (fun k => code a2 k f.val) (by show 128 * (n.val / 128) + (65536 + n.val) % 128 = _; omega)

theorem rows_vt : transpose S4096x32768 [1, 0] (extractStridedSlice S32768x4096 ![65536, 0] (refRows a0 a1 a2) slices_S98304x4096_S32768x4096_65536_0)
    transposes_S32768x4096_S4096x32768_1_0 (ix2 f n) = code a2 n.val f.val := by
  have e := rows_v a0 a1 a2 n f
  generalize extractStridedSlice S32768x4096 ![65536, 0] (refRows a0 a1 a2) slices_S98304x4096_S32768x4096_65536_0 = y at e ⊢
  refine Eq.trans ?_ e
  pointwise []

end

variable (m : (ℓ : Loc nD τ sig) → Buf (Elt Ideal) ℓ) (c : Dev nD)

theorem cast_x (X : FVec Ideal S32768x4096 .f32) (y : S32768x4096.Idx) : (k0_pay1 (F := Ideal) X y : EReal) = (X y : EReal) := by
  unfold k0_pay1
  rw [Idealize.ShloMosaic.shapeCast_self]
  rfl

theorem same_x (t : Fin cfg0.N) (y : S32768x4096.Idx) (X : S32768x4096.Idx → EReal) :
    X ((win0_0.blk t).view.emb y) = X ((win0_4.blk t).view.emb y) := rfl

theorem read_x (W : (b : Ref sig Kind.tc) → Buf (Elt Ideal) ((c.tc : Thread nD τ).loc b)) (t : Fin cfg0.N) (y : S32768x4096.Idx) :
    View.read (Elt Ideal) ((cfg0.win 0).blk t).view (W (Pipeline.arrRef spec0 0)) y = W main_v26 ((win0_0.blk t).view.emb y) := rfl

theorem block_x (t : Fin cfg0.N) (y : S32768x4096.Idx) : iblk m c 0 t y = V m c main_v26 ((win0_4.blk t).view.emb y) :=
  (read_x c (V m c) t y).trans (same_x t y (V m c main_v26))

theorem kept_x : reg_main_v31_0 m c = V m c main_v26 := by
  unfold reg_main_v31_0
  refine (dats m 0 c).arrAt_eq_of_covers 4 _ (by decide +kernel) fun t hf y => ?_
  blk_simp
  rw [after0_4]
  frame_out
  exact (cast_x (iblk m c 0 t) y).trans (block_x m c t y)

theorem region_x (j : S32768x4096.Idx) : reg_main_v31_0 m c j = code (m ((c.tc : Thread nD τ).loc main_arg0)) (j 0).val (j 1).val := by
  rw [kept_x m c, before_x]
  have hj : j = ix2 (⟨(j 0).val, (j 0).isLt⟩ : Fin 32768) (⟨(j 1).val, (j 1).isLt⟩ : Fin 4096) := funext fun a => by fin_cases a <;> rfl
  exact (congrArg _ hj).trans (rows_x _ _ _ _ _)

theorem cast_k (X : FVec Ideal S32768x4096 .f32) (y : S32768x4096.Idx) : (k0_pay2 (F := Ideal) X y : EReal) = (X y : EReal) := by
  unfold k0_pay2
  rw [Idealize.ShloMosaic.shapeCast_self]
  rfl

theorem same_k (t : Fin cfg0.N) (y : S32768x4096.Idx) (X : S32768x4096.Idx → EReal) :
    X ((win0_1.blk t).view.emb y) = X ((win0_5.blk t).view.emb y) := rfl

theorem read_k (W : (b : Ref sig Kind.tc) → Buf (Elt Ideal) ((c.tc : Thread nD τ).loc b)) (t : Fin cfg0.N) (y : S32768x4096.Idx) :
    View.read (Elt Ideal) ((cfg0.win 1).blk t).view (W (Pipeline.arrRef spec0 1)) y = W main_v27 ((win0_1.blk t).view.emb y) := rfl

theorem block_k (t : Fin cfg0.N) (y : S32768x4096.Idx) : iblk m c 1 t y = V m c main_v27 ((win0_5.blk t).view.emb y) :=
  (read_k c (V m c) t y).trans (same_k t y (V m c main_v27))

theorem kept_k : reg_main_v31_1 m c = V m c main_v27 := by
  unfold reg_main_v31_1
  refine (dats m 0 c).arrAt_eq_of_covers 5 _ (by decide +kernel) fun t hf y => ?_
  blk_simp
  rw [after0_5]
  frame_out
  exact (cast_k (iblk m c 1 t) y).trans (block_k m c t y)

theorem region_k (j : S32768x4096.Idx) : reg_main_v31_1 m c j = code (m ((c.tc : Thread nD τ).loc main_arg1)) (j 0).val (j 1).val := by
  rw [kept_k m c, before_k]
  have hj : j = ix2 (⟨(j 0).val, (j 0).isLt⟩ : Fin 32768) (⟨(j 1).val, (j 1).isLt⟩ : Fin 4096) := funext fun a => by fin_cases a <;> rfl
  exact (congrArg _ hj).trans (rows_k _ _ _ _ _)

theorem cast_v (X : FVec Ideal S32768x4096 .f32) (y : S32768x4096.Idx) : (k0_pay3 (F := Ideal) X y : EReal) = (X y : EReal) := by
  unfold k0_pay3
  rw [Idealize.ShloMosaic.shapeCast_self]
  rfl

theorem same_v (t : Fin cfg0.N) (y : S32768x4096.Idx) (X : S32768x4096.Idx → EReal) :
    X ((win0_2.blk t).view.emb y) = X ((win0_6.blk t).view.emb y) := rfl

theorem read_v (W : (b : Ref sig Kind.tc) → Buf (Elt Ideal) ((c.tc : Thread nD τ).loc b)) (t : Fin cfg0.N) (y : S32768x4096.Idx) :
    View.read (Elt Ideal) ((cfg0.win 2).blk t).view (W (Pipeline.arrRef spec0 2)) y = W main_v28 ((win0_2.blk t).view.emb y) := rfl

theorem block_v (t : Fin cfg0.N) (y : S32768x4096.Idx) : iblk m c 2 t y = V m c main_v28 ((win0_6.blk t).view.emb y) :=
  (read_v c (V m c) t y).trans (same_v t y (V m c main_v28))

theorem kept_v : reg_main_v31_2 m c = V m c main_v28 := by
  unfold reg_main_v31_2
  refine (dats m 0 c).arrAt_eq_of_covers 6 _ (by decide +kernel) fun t hf y => ?_
  blk_simp
  rw [after0_6]
  frame_out
  exact (cast_v (iblk m c 2 t) y).trans (block_v m c t y)

theorem region_v (j : S32768x4096.Idx) : reg_main_v31_2 m c j = code (m ((c.tc : Thread nD τ).loc main_arg2)) (j 0).val (j 1).val := by
  rw [kept_v m c, before_v]
  have hj : j = ix2 (⟨(j 0).val, (j 0).isLt⟩ : Fin 32768) (⟨(j 1).val, (j 1).isLt⟩ : Fin 4096) := funext fun a => by fin_cases a <;> rfl
  exact (congrArg _ hj).trans (rows_v _ _ _ _ _)

theorem cast_vt (X : FVec Ideal S4096x32768 .f32) (y : S4096x32768.Idx) : (k0_pay4 (F := Ideal) X y : EReal) = (X y : EReal) := by
  unfold k0_pay4
  rw [Idealize.ShloMosaic.shapeCast_self]
  rfl

theorem same_vt (t : Fin cfg0.N) (y : S4096x32768.Idx) (X : S4096x32768.Idx → EReal) :
    X ((win0_3.blk t).view.emb y) = X ((win0_7.blk t).view.emb y) := rfl

theorem read_vt (W : (b : Ref sig Kind.tc) → Buf (Elt Ideal) ((c.tc : Thread nD τ).loc b)) (t : Fin cfg0.N) (y : S4096x32768.Idx) :
    View.read (Elt Ideal) ((cfg0.win 3).blk t).view (W (Pipeline.arrRef spec0 3)) y = W main_v30 ((win0_3.blk t).view.emb y) := rfl

theorem block_vt (t : Fin cfg0.N) (y : S4096x32768.Idx) : iblk m c 3 t y = V m c main_v30 ((win0_7.blk t).view.emb y) :=
  (read_vt c (V m c) t y).trans (same_vt t y (V m c main_v30))

theorem kept_vt : reg_main_v31_3 m c = V m c main_v30 := by
  unfold reg_main_v31_3
  refine (dats m 0 c).arrAt_eq_of_covers 7 _ (by decide +kernel) fun t hf y => ?_
  blk_simp
  rw [after0_7]
  frame_out
  exact (cast_vt (iblk m c 3 t) y).trans (block_vt m c t y)

theorem region_vt (j : S4096x32768.Idx) : reg_main_v31_3 m c j = code (m ((c.tc : Thread nD τ).loc main_arg2)) (j 1).val (j 0).val := by
  rw [kept_vt m c, before_vt]
  have hj : j = ix2 (⟨(j 0).val, (j 0).isLt⟩ : Fin 4096) (⟨(j 1).val, (j 1).isLt⟩ : Fin 32768) := funext fun a => by fin_cases a <;> rfl
  exact (congrArg _ hj).trans (rows_vt _ _ _ _ _)

/-! ### The scales -/

/-- The scale at feature `f` of a block of the three arrays. -/
theorem scales_at (z : FVec Ideal S768x32 .f32) (i : S768x1x4096.Idx) (k : Fin 768) (h : Fin 32) (hk : (i 0).val = k.val) (hh : (i 2).val / 128 = h.val) :
    val_main_v36 (F := Ideal) z i = Ideal.pow (Ideal.ofBits .f32 0x40000000#32) (z (ix2 k h)) := by
  rw [val_main_v36_apply, val_main_v35_apply, val_main_v34_apply, val_main_v33_apply, val_main_v32_apply, val_main_cst_8_apply]
  have h0 : (i 0).val < 768 := (i 0).isLt
  have h1 : (i 1).val < 1 := (i 1).isLt
  have h2 : (i 2).val < 4096 := (i 2).isLt
  refine congrArg (fun q => Ideal.pow (Ideal.ofBits .f32 0x40000000#32) (z q)) (funext fun a => Fin.ext ?_)
  fin_cases a
  · show (((i 0).val * 1 + (i 1).val) * 4096 + (i 2).val) / 4096 = k.val
    omega
  · show (((i 0).val * 1 + (i 1).val) * 4096 + (i 2).val) / 128 % 32 = h.val
    omega

section

variable (a0 a1 a2 : (⟨S32768x4096, .bf16⟩ : BufTy).Contents (Elt Ideal)) (j : S256x1x4096.Idx)

theorem scales_x : val_main_v37 (F := Ideal) (refExp a0 a1 a2) j = scale a0 (j 0).val (j 2).val := by
  have h0 : (j 0).val < 256 := (j 0).isLt
  have h2 : (j 2).val < 4096 := (j 2).isLt
  have e := refExp_at (refBlocks_x a0 a1 a2 (⟨(j 0).val, by omega⟩ : Fin 768) (j 0).val h0 rfl) (⟨(j 2).val / 128, by omega⟩ : Fin 32)
  generalize refExp a0 a1 a2 = z at e ⊢
  rw [val_main_v37_apply]
  refine (scales_at z (idx_main_v37 j) (⟨(j 0).val, by omega⟩ : Fin 768) (⟨(j 2).val / 128, by omega⟩ : Fin 32) rfl rfl).trans ?_
  rw [e]
  rfl

theorem scales_k : val_main_v38 (F := Ideal) (refExp a0 a1 a2) j = scale a1 (j 0).val (j 2).val := by
  have h0 : (j 0).val < 256 := (j 0).isLt
  have h2 : (j 2).val < 4096 := (j 2).isLt
  have e := refExp_at (refBlocks_k a0 a1 a2 (⟨256 + (j 0).val, by omega⟩ : Fin 768) (j 0).val h0 rfl) (⟨(j 2).val / 128, by omega⟩ : Fin 32)
  generalize refExp a0 a1 a2 = z at e ⊢
  rw [val_main_v38_apply]
  refine (scales_at z (idx_main_v38 j) (⟨256 + (j 0).val, by omega⟩ : Fin 768) (⟨(j 2).val / 128, by omega⟩ : Fin 32) rfl rfl).trans ?_
  rw [e]
  rfl

theorem scales_v : val_main_v39 (F := Ideal) (refExp a0 a1 a2) j = scale a2 (j 0).val (j 2).val := by
  have h0 : (j 0).val < 256 := (j 0).isLt
  have h2 : (j 2).val < 4096 := (j 2).isLt
  have e := refExp_at (refBlocks_v a0 a1 a2 (⟨512 + (j 0).val, by omega⟩ : Fin 768) (j 0).val h0 rfl) (⟨(j 2).val / 128, by omega⟩ : Fin 32)
  generalize refExp a0 a1 a2 = z at e ⊢
  rw [val_main_v39_apply]
  refine (scales_at z (idx_main_v39 j) (⟨512 + (j 0).val, by omega⟩ : Fin 768) (⟨(j 2).val / 128, by omega⟩ : Fin 32) rfl rfl).trans ?_
  rw [e]
  rfl

end

end Cert.Quant

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.Quantise
public import proofs.«01_k».proof.Proof.Gen.Quantise.Frame
public import proofs.«01_k».proof.Proof.Gen.QuantiseIdeal
public import proofs.«01_k».proof.Proof.Gen.QuantiseIdeal.Frame
public import proofs.«01_k».proof.Proof.Gen.QuantiseIdeal.Value
public import proofs.«01_k».proof.Proof.Gen.QuantiseReferenceIdeal
public import proofs.«01_k».proof.Proof.Gen.QuantiseReferenceIdeal.Frame
public import proofs.«01_k».proof.Proof.Gen.QuantiseReferenceIdeal.Run
public import proofs.«01_k».proof.Proof.Gen.QuantiseReferenceIdeal.Read
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Regions
public import proofs.«01_k».proof.Proof.Scales
public import proofs.«01_k».proof.Proof.QuantArray
public import proofs.«01_k».proof.Proof.QuantRange
public import proofs.«01_k».proof.Proof.QuantResult
public import Idealize.ShloMosaic.Adequacy
public import Idealize.ShloMosaic.Init

@[expose] public section

noncomputable section

namespace Cert.Proof

open Idealize.ShloMosaic Idealize.ShloMosaic.Pointwise Idealize.SL.Sem

/-- The reference's result is `resultOf` of its arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 m c = Cert.Attn.resultOf
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5)) := by
  have e : Cert.ReferenceIdeal.Value.res_out0 m c = Cert.ReferenceIdeal.Read.val_main_v46 (F := Ideal)
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (Cert.ReferenceIdeal.Value.reg_main_v0_0 m c) (Cert.ReferenceIdeal.Value.reg_main_v0_1 m c) (Cert.ReferenceIdeal.Value.reg_main_v0_2 m c) := rfl
  rw [e, Cert.Attn.region_q, Cert.Attn.region_k, Cert.Attn.region_v]
  funext j
  have h1 : (j 1).val < 4096 := (j 1).isLt
  have hj : j = ix2 (⟨(j 0).val, (j 0).isLt⟩ : Fin 32768) (⟨(j 1).val, h1⟩ : Fin 4096) := funext fun a => by fin_cases a <;> rfl
  refine (congrArg _ hj).trans (Cert.Attn.ref_result _ _ _ _ _ _ _ (Fin.ofNat 32 ((j 1).val / 128)) (Fin.ofNat 128 (j 1).val) _ ?_)
  show (j 1).val = 128 * ((j 1).val / 128 % 32) + (j 1).val % 128
  omega

/-- Kernel and reference end with the same array. -/
theorem algebraic : Cert.algebraic_KernelIdeal_ReferenceIdeal_pre_scales_in_range (hKernelIdeal := Cert.KernelIdeal.Gen.facts)
    (hReferenceIdeal := Cert.ReferenceIdeal.Gen.facts) (hPre_scales_in_range := Cert.Attn.scalesFacts) := by
  intro m g m' g' hpre hargs
  refine ⟨fun c => (Cert.KernelIdeal.Gen.dats m 0 c).arrAt 6 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨hq, hk, hv, hv'⟩ := hpre c
  obtain ⟨e0, e1, e2, e3, e4, e5⟩ := hargs c
  refine (reference_result m' c).trans ?_
  rw [e0, e1, e2, e3, e4, e5]
  letI := Cert.Attn.scalesFacts
  exact (Cert.Attn.result_eq m c (Cert.Attn.qscale_pos _ _ _ _ _ _ hq) (Cert.Attn.kscale_pos _ _ _ _ _ _ hk)
    (Cert.Attn.vscale_nonneg _ _ _ _ _ _ hv) (Cert.Attn.vscale_ne_top _ _ _ _ _ _ hv')).symm

/-- The quantise call and its reference end with the same seven arrays. -/
theorem quantise_algebraic : Cert.algebraic_QuantiseIdeal_QuantiseReferenceIdeal_pre_largest_in_range (hQuantiseIdeal := Cert.QuantiseIdeal.Gen.facts)
    (hQuantiseReferenceIdeal := Cert.QuantiseReferenceIdeal.Gen.facts) (hPre_largest_in_range := Cert.Quant.rangeFacts) := by
  intro m g m' g' hpre hargs
  refine ⟨fun c => (Cert.QuantiseIdeal.Gen.dats m 0 c).arrAt 3 Cert.QuantiseIdeal.cfg0.N,
    fun c => (Cert.QuantiseIdeal.Gen.dats m 0 c).arrAt 4 Cert.QuantiseIdeal.cfg0.N,
    fun c => (Cert.QuantiseIdeal.Gen.dats m 0 c).arrAt 5 Cert.QuantiseIdeal.cfg0.N,
    fun c => (Cert.QuantiseIdeal.Gen.dats m 0 c).arrAt 6 Cert.QuantiseIdeal.cfg0.N,
    fun c => (Cert.QuantiseIdeal.Gen.dats m 0 c).arrAt 7 Cert.QuantiseIdeal.cfg0.N,
    fun c => (Cert.QuantiseIdeal.Gen.dats m 0 c).arrAt 8 Cert.QuantiseIdeal.cfg0.N,
    fun c => (Cert.QuantiseIdeal.Gen.dats m 0 c).arrAt 9 Cert.QuantiseIdeal.cfg0.N, Cert.QuantiseIdeal.Value.run_blocks m g,
    (θ_run _ _ _).mono (fun r h c => ?_) (Cert.QuantiseReferenceIdeal.Value.run m' g')⟩
  letI := Cert.Quant.rangeFacts
  obtain ⟨hx, hk, hv⟩ := hpre c
  have rx := Cert.Quant.range_x _ _ _ hx
  have rk := Cert.Quant.range_k _ _ _ hk
  have rv := Cert.Quant.range_v _ _ _ hv
  obtain ⟨e0, e1, e2⟩ := hargs c
  obtain ⟨h0, h1, h2, h3, h4, h5, h6, h⟩ := h c
  have x0 := funext (Cert.Quant.region_x m' c)
  have x1 := funext (Cert.Quant.scales_x (m' ((c.tc : Thread Cert.QuantiseReferenceIdeal.nD Cert.QuantiseReferenceIdeal.τ).loc Cert.QuantiseReferenceIdeal.main_arg0))
    (m' ((c.tc : Thread Cert.QuantiseReferenceIdeal.nD Cert.QuantiseReferenceIdeal.τ).loc Cert.QuantiseReferenceIdeal.main_arg1))
    (m' ((c.tc : Thread Cert.QuantiseReferenceIdeal.nD Cert.QuantiseReferenceIdeal.τ).loc Cert.QuantiseReferenceIdeal.main_arg2)))
  have x2 := funext (Cert.Quant.region_k m' c)
  have x3 := funext (Cert.Quant.scales_k (m' ((c.tc : Thread Cert.QuantiseReferenceIdeal.nD Cert.QuantiseReferenceIdeal.τ).loc Cert.QuantiseReferenceIdeal.main_arg0))
    (m' ((c.tc : Thread Cert.QuantiseReferenceIdeal.nD Cert.QuantiseReferenceIdeal.τ).loc Cert.QuantiseReferenceIdeal.main_arg1))
    (m' ((c.tc : Thread Cert.QuantiseReferenceIdeal.nD Cert.QuantiseReferenceIdeal.τ).loc Cert.QuantiseReferenceIdeal.main_arg2)))
  have x4 := funext (Cert.Quant.region_v m' c)
  have x5 := funext (Cert.Quant.scales_v (m' ((c.tc : Thread Cert.QuantiseReferenceIdeal.nD Cert.QuantiseReferenceIdeal.τ).loc Cert.QuantiseReferenceIdeal.main_arg0))
    (m' ((c.tc : Thread Cert.QuantiseReferenceIdeal.nD Cert.QuantiseReferenceIdeal.τ).loc Cert.QuantiseReferenceIdeal.main_arg1))
    (m' ((c.tc : Thread Cert.QuantiseReferenceIdeal.nD Cert.QuantiseReferenceIdeal.τ).loc Cert.QuantiseReferenceIdeal.main_arg2)))
  have x6 := funext (Cert.Quant.region_vt m' c)
  rw [e0] at x0
  rw [e0, e1, e2] at x1 x3 x5
  rw [e1] at x2
  rw [e2] at x4 x6
  refine ⟨h0.trans (x0.trans (Cert.Quant.result3 m c rx).symm), h1.trans (Eq.trans ?_ (x1.trans (Cert.Quant.result4 m c rx).symm)),
    h2.trans (x2.trans (Cert.Quant.result5 m c rk).symm), h3.trans (Eq.trans ?_ (x3.trans (Cert.Quant.result6 m c rk).symm)),
    h4.trans (x4.trans (Cert.Quant.result7 m c rv).symm), h5.trans (Eq.trans ?_ (x5.trans (Cert.Quant.result8 m c rv).symm)),
    h6.trans (x6.trans (Cert.Quant.result9 m c rv).symm), h⟩
  · rw [e0, e1, e2]
    rfl
  · rw [e0, e1, e2]
    rfl
  · rw [e0, e1, e2]
    rfl

theorem claim : Cert.Claim :=
  ⟨Cert.Kernel.Gen.facts, Cert.KernelIdeal.Gen.facts, Cert.ReferenceIdeal.Gen.facts, Cert.Quantise.Gen.facts, Cert.QuantiseIdeal.Gen.facts,
    Cert.QuantiseReferenceIdeal.Gen.facts, Cert.Attn.scalesFacts, Cert.Quant.rangeFacts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g,
    fun m g _ => Cert.Quantise.Gen.frame m g, fun m g _ => Cert.QuantiseIdeal.Gen.frame m g, fun m g _ => Cert.QuantiseIdeal.Gen.frame m g,
    fun m g _ => Cert.QuantiseReferenceIdeal.Gen.frame m g, fun m g _ => Cert.QuantiseReferenceIdeal.Gen.frame m g,
    IdealRules.named_const.statement Cert.KernelIdeal.κ "log2e" .f32 0x3FB8AA3B#32 (((Real.log 2)⁻¹ : ℝ) : EReal) rfl, algebraic,
    trivial, quantise_algebraic⟩

end Cert.Proof

end
